-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S1x2048x768 : Shape := ⟨3, ![1, 2048, 768]⟩
abbrev S768x768 : Shape := ⟨2, ![768, 768]⟩
abbrev S768x24 : Shape := ⟨2, ![768, 24]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768x24 : S_.BroadcastsInDim S768x24 (![] : Fin 0 → Fin S768x24.rank)
  reducesTo_S768x24_S_d0_1 : S768x24.ReducesTo [0, 1] S_

variable [Facts]

def fn_part1 {F : FTy → Type} [FloatOps F] (main_v13 : IVec S_ 1) (main_v16 : IVec S768x24 1) : IVec S_ 1 :=
  let main_c_5 : IVec S_ 1 := constantI S_ 1 1#1
  let main_v17 : IVec S_ 1 := (fun x v => Host.reduce IntOp.andi x v reducesTo_S768x24_S_d0_1 h_S_) main_v16 main_c_5
  let main_v18 : IVec S_ 1 := andi main_v13 main_v17
  main_v18

def fn {F : FTy → Type} [FloatOps F] (main_arg0 : FVec F S1x2048x768 .f32) (main_arg1 : FVec F S768x768 .f32) (main_arg2 : FVec F S768x768 .f32) (main_arg3 : FVec F S768x768 .f32) (main_arg4 : FVec F S768x24 .f32) (main_arg5 : FVec F S768x768 .f32) : IVec S_ 1 :=
  let main_v0 : FVec F S1x2048x768 .f32 := Host.absf main_arg0
  let main_cst : FVec F S_ .f32 := constant S_ .f32 0x47C35000#32
  let main_v1 : FVec F S1x2048x768 .f32 := broadcastInDim S1x2048x768 ![] bcast_S_S1x2048x768 main_cst
  let main_v2 : IVec S1x2048x768 1 := cmpf .ole main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x768 .f32 := Host.absf main_arg1
  let main_cst_0 : FVec F S_ .f32 := constant S_ .f32 0x47C35000#32
  let main_v5 : FVec F S768x768 .f32 := broadcastInDim S768x768 ![] bcast_S_S768x768 main_cst_0
  let main_v6 : IVec S768x768 1 := cmpf .ole main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x47C35000#32
  let main_v10 : FVec F S768x768 .f32 := broadcastInDim S768x768 ![] bcast_S_S768x768 main_cst_2
  let main_v11 : IVec S768x768 1 := cmpf .ole main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x24 .f32 := Host.absf main_arg4
  let main_cst_4 : FVec F S_ .f32 := constant S_ .f32 0x47C35000#32
  let main_v15 : FVec F S768x24 .f32 := broadcastInDim S768x24 ![] bcast_S_S768x24 main_cst_4
  let main_v16 : IVec S768x24 1 := cmpf .ole main_v14 main_v15
  fn_part1 (F := F) main_v13 main_v16
-- ==== Kernel.lean ====
abbrev S1x2048x768 : Shape := ⟨3, ![1, 2048, 768]⟩
abbrev S768x768 : Shape := ⟨2, ![768, 768]⟩
abbrev S768x24 : Shape := ⟨2, ![768, 24]⟩
abbrev S64x2048 : Shape := ⟨2, ![64, 2048]⟩
abbrev S2048x768 : Shape := ⟨2, ![2048, 768]⟩
abbrev S12x768x256 : Shape := ⟨3, ![12, 768, 256]⟩
abbrev S768x62 : Shape := ⟨2, ![768, 62]⟩
abbrev S768x64 : Shape := ⟨2, ![768, 64]⟩
abbrev S768x2 : Shape := ⟨2, ![768, 2]⟩
abbrev S768x256 : Shape := ⟨2, ![768, 256]⟩
abbrev S1x768x256 : Shape := ⟨3, ![1, 768, 256]⟩
abbrev S12x64x768 : Shape := ⟨3, ![12, 64, 768]⟩
abbrev S1024x1024 : Shape := ⟨2, ![1024, 1024]⟩
abbrev S_ : Shape := ⟨0, ![]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S12x2048x64 : Shape := ⟨3, ![12, 2048, 64]⟩
abbrev S12x64x64 : Shape := ⟨3, ![12, 64, 64]⟩
abbrev S12x2048x2 : Shape := ⟨3, ![12, 2048, 2]⟩
abbrev S512x768 : Shape := ⟨2, ![512, 768]⟩
abbrev S512x64 : Shape := ⟨2, ![512, 64]⟩
abbrev S1x512x64 : Shape := ⟨3, ![1, 512, 64]⟩
abbrev S1x16x64 : Shape := ⟨3, ![1, 16, 64]⟩
abbrev S1x512x2 : Shape := ⟨3, ![1, 512, 2]⟩
abbrev S512x256 : Shape := ⟨2, ![512, 256]⟩
abbrev S512x1 : Shape := ⟨2, ![512, 1]⟩
abbrev S512x63 : Shape := ⟨2, ![512, 63]⟩
abbrev S512x2 : Shape := ⟨2, ![512, 2]⟩
abbrev S16x512 : Shape := ⟨2, ![16, 512]⟩
abbrev S16x64 : Shape := ⟨2, ![16, 64]⟩
abbrev S1x1024x64 : Shape := ⟨3, ![1, 1024, 64]⟩
abbrev S1x1024x2 : Shape := ⟨3, ![1, 1024, 2]⟩
abbrev S1024x768 : Shape := ⟨2, ![1024, 768]⟩
abbrev S1024x64 : Shape := ⟨2, ![1024, 64]⟩
abbrev S1x2048x64 : Shape := ⟨3, ![1, 2048, 64]⟩
abbrev S1x64x64 : Shape := ⟨3, ![1, 64, 64]⟩
abbrev S64x64 : Shape := ⟨2, ![64, 64]⟩
abbrev S1024 : Shape := ⟨1, ![1024]⟩
abbrev S1024x1 : Shape := ⟨2, ![1024, 1]⟩
abbrev S1024x2048 : Shape := ⟨2, ![1024, 2048]⟩
abbrev S1024x2 : Shape := ⟨2, ![1024, 2]⟩
abbrev S1x64x768 : Shape := ⟨3, ![1, 64, 768]⟩
abbrev S64x768 : Shape := ⟨2, ![64, 768]⟩

abbrev nBuf : Space → Nat
  | .hbm => 67
  | .vmem => 34
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x24, .f32⟩
  | .hbm, ⟨5, _⟩ => ⟨S768x768, .f32⟩
  | .hbm, ⟨6, _⟩ => ⟨S64x2048, .f32⟩
  | .hbm, ⟨7, _⟩ => ⟨S2048x768, .f32⟩
  | .hbm, ⟨8, _⟩ => ⟨S12x768x256, .f32⟩
  | .hbm, ⟨9, _⟩ => ⟨S12x64x768, .f32⟩
  | .hbm, ⟨10, _⟩ => ⟨S1024x1024, .i32⟩
  | .hbm, ⟨11, _⟩ => ⟨S1024x1024, .i32⟩
  | .hbm, ⟨12, _⟩ => ⟨S_, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S1024x1024, .i1⟩
  | .hbm, ⟨20, _⟩ => ⟨S1024x1024, .i1⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S2048, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S2048x1, .f32⟩
  | .hbm, ⟨45, _⟩ => ⟨S1x32, .f32⟩
  | .hbm, ⟨46, _⟩ => ⟨S2048x32, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32x1, .f32⟩
  | .hbm, ⟨52, _⟩ => ⟨S2048x32x1, .f32⟩
  | .hbm, ⟨53, _⟩ => ⟨S2048x32x2, .f32⟩
  | .hbm, ⟨54, _⟩ => ⟨S2048x64, .f32⟩
  | .hbm, ⟨55, _⟩ => ⟨S2048x32, .f32⟩
  | .hbm, ⟨56, _⟩ => ⟨S2048x32x1, .f32⟩
  | .hbm, ⟨57, _⟩ => ⟨S2048x32x1, .f32⟩
  | .hbm, ⟨58, _⟩ => ⟨S2048x32x2, .f32⟩
  | .hbm, ⟨59, _⟩ => ⟨S2048x64, .f32⟩
  | .hbm, ⟨60, _⟩ => ⟨S12x2048x64, .bf16⟩
  | .hbm, ⟨61, _⟩ => ⟨S12x2048x64, .bf16⟩
  | .hbm, ⟨62, _⟩ => ⟨S12x2048x64, .bf16⟩
  | .hbm, ⟨63, _⟩ => ⟨S12x64x64, .f32⟩
  | .hbm, ⟨64, _⟩ => ⟨S12x2048x2, .f32⟩
  | .hbm, ⟨65, _⟩ => ⟨S2048x768, .f32⟩
  | .hbm, ⟨66, _⟩ => ⟨S1x2048x768, .f32⟩
  | .local _ .vmem, ⟨0, _⟩ => ⟨S768x768, .f32⟩
  | .local _ .vmem, ⟨1, _⟩ => ⟨S768x768, .f32⟩
  | .local _ .vmem, ⟨2, _⟩ => ⟨S768x768, .f32⟩
  | .local _ .vmem, ⟨3, _⟩ => ⟨S768x24, .f32⟩
  | .local _ .vmem, ⟨4, _⟩ => ⟨S12x768x256, .f32⟩
  | .local _ .vmem, ⟨5, _⟩ => ⟨S512x768, .f32⟩
  | .local _ .vmem, ⟨6, _⟩ => ⟨S512x768, .f32⟩
  | .local _ .vmem, ⟨7, _⟩ => ⟨S12x768x256, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x512x64, .bf16⟩
  | .local _ .vmem, ⟨18, _⟩ => ⟨S1x16x64, .f32⟩
  | .local _ .vmem, ⟨19, _⟩ => ⟨S1x16x64, .f32⟩
  | .local _ .vmem, ⟨20, _⟩ => ⟨S1x512x2, .f32⟩
  | .local _ .vmem, ⟨21, _⟩ => ⟨S1x512x2, .f32⟩
  | .local _ .vmem, ⟨22, _⟩ => ⟨S1x1024x64, .bf16⟩
  | .local _ .vmem, ⟨23, _⟩ => ⟨S1x1024x64, .bf16⟩
  | .local _ .vmem, ⟨24, _⟩ => ⟨S12x2048x64, .bf16⟩
  | .local _ .vmem, ⟨25, _⟩ => ⟨S12x2048x64, .bf16⟩
  | .local _ .vmem, ⟨26, _⟩ => ⟨S12x64x64, .f32⟩
  | .local _ .vmem, ⟨27, _⟩ => ⟨S1x1024x2, .f32⟩
  | .local _ .vmem, ⟨28, _⟩ => ⟨S1x1024x2, .f32⟩
  | .local _ .vmem, ⟨29, _⟩ => ⟨S12x64x768, .f32⟩
  | .local _ .vmem, ⟨30, _⟩ => ⟨S1024x1024, .f32⟩
  | .local _ .vmem, ⟨31, _⟩ => ⟨S64x2048, .f32⟩
  | .local _ .vmem, ⟨32, _⟩ => ⟨S1024x768, .f32⟩
  | .local _ .vmem, ⟨33, _⟩ => ⟨S1024x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev main_v42_3 : Ref sig .tc := ⟨.hbm, 63, rfl⟩
abbrev main_v42_4 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![4, 12], ![false, false]⟩

def k1_off1 (i : grid1.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S12x768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 12], ![false, false]⟩

def k2_off1 (i : grid2.Coords) : Fin 3 → Nat :=
  let arg1 : BitVec 32 := BitVec.ofNat 32 (i 1).val
  let v2 : Index := Scalar.indexCast arg1
  let c0_2 : Index := 0#32
  let c0_3 : Index := 0#32
  ![v2.toNat, 0, 0]
def k2_off2 (i : grid2.Coords) : Fin 3 → Nat :=
  let arg1 : BitVec 32 := BitVec.ofNat 32 (i 1).val
  let v8 : Index := Scalar.indexCast arg1
  let c0_6 : Index := 0#32
  let c0_7 : Index := 0#32
  ![v8.toNat, 0, 0]
def k2_off3 (i : grid2.Coords) : Fin 3 → Nat :=
  let arg1 : BitVec 32 := BitVec.ofNat 32 (i 1).val
  let v76 : Index := Scalar.indexCast arg1
  let arg0 : BitVec 32 := BitVec.ofNat 32 (i 0).val
  let c1024_i32_27 : BitVec 32 := 1024#32
  let v75 : BitVec 32 := Scalar.muli arg0 c1024_i32_27
  let v77 : Index := Scalar.indexCast v75
  let c0_28 : Index := 0#32
  ![v76.toNat, v77.toNat, 0]
def k2_off4 (i : grid2.Coords) : Fin 3 → Nat :=
  let arg1 : BitVec 32 := BitVec.ofNat 32 (i 1).val
  let v109 : Index := Scalar.indexCast arg1
  let c0_40 : Index := 0#32
  let c0_41 : Index := 0#32
  ![v109.toNat, 0, 0]
def k2_cond1 (i : grid2.Coords) : BitVec 1 :=
  let arg1 : BitVec 32 := BitVec.ofNat 32 (i 1).val
  let c0_i32 : BitVec 32 := 0#32
  let v113 : BitVec 1 := Scalar.cmpi .eq arg1 c0_i32
  let v114 : BitVec 32 := Scalar.extui v113
  let c0_i32_43 : BitVec 32 := 0#32
  let v115 : BitVec 1 := Scalar.cmpi .ne v114 c0_i32_43
  v115

def k2_cond2 (i : grid2.Coords) : BitVec 1 :=
  let arg1 : BitVec 32 := BitVec.ofNat 32 (i 1).val
  let c0_i32_44 : BitVec 32 := 0#32
  let v116 : BitVec 1 := Scalar.cmpi .ne arg1 c0_i32_44
  let v117 : BitVec 32 := Scalar.extui v116
  let c0_i32_45 : BitVec 32 := 0#32
  let v118 : BitVec 1 := Scalar.cmpi .ne v117 c0_i32_45
  v118

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S12x2048x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S12x2048x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S12x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1024x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S12x64x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1024x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1024x768 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S768x768 : Shape := ⟨2, ![768, 768]⟩
abbrev S768x24 : Shape := ⟨2, ![768, 24]⟩
abbrev S1x2048x12x64 : Shape := ⟨4, ![1, 2048, 12, 64]⟩
abbrev S1x2048x24 : Shape := ⟨3, ![1, 2048, 24]⟩
abbrev S1x2048x12x2 : Shape := ⟨4, ![1, 2048, 12, 2]⟩
abbrev S_ : Shape := ⟨0, ![]⟩
abbrev S1x2048x12 : Shape := ⟨3, ![1, 2048, 12]⟩
abbrev S1x2048x12x1 : Shape := ⟨4, ![1, 2048, 12, 1]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x12x32 : Shape := ⟨4, ![1, 2048, 12, 32]⟩
abbrev S1x2048x12x32x1 : Shape := ⟨5, ![1, 2048, 12, 32, 1]⟩
abbrev S1x2048x12x32x2 : Shape := ⟨5, ![1, 2048, 12, 32, 2]⟩
abbrev S1x64x32x12x64 : Shape := ⟨5, ![1, 64, 32, 12, 64]⟩
abbrev S1x64x12x64 : Shape := ⟨4, ![1, 64, 12, 64]⟩
abbrev S1x12x2048x64 : Shape := ⟨4, ![1, 12, 2048, 64]⟩
abbrev S64 : Shape := ⟨1, ![64]⟩
abbrev S1x64 : Shape := ⟨2, ![1, 64]⟩
abbrev S2048x64 : Shape := ⟨2, ![2048, 64]⟩
abbrev S1x1x2048x64 : Shape := ⟨4, ![1, 1, 2048, 64]⟩
abbrev S1x12x2048x2 : Shape := ⟨4, ![1, 12, 2048, 2]⟩
abbrev S1x12x64x32x64 : Shape := ⟨5, ![1, 12, 64, 32, 64]⟩
abbrev S1 : Shape := ⟨1, ![1]⟩
abbrev S1x1x1x1 : Shape := ⟨4, ![1, 1, 1, 1]⟩
abbrev S12 : Shape := ⟨1, ![12]⟩
abbrev S1x12x1x1 : Shape := ⟨4, ![1, 12, 1, 1]⟩
abbrev S1x12x2048x2x1 : Shape := ⟨5, ![1, 12, 2048, 2, 1]⟩
abbrev S1x12x2048x2x3 : Shape := ⟨5, ![1, 12, 2048, 2, 3]⟩
abbrev S1x12x2048x2x32x64 : Shape := ⟨6, ![1, 12, 2048, 2, 32, 64]⟩
abbrev S1x12x2048x64x64 : Shape := ⟨5, ![1, 12, 2048, 64, 64]⟩
abbrev S1x12x2048 : Shape := ⟨3, ![1, 12, 2048]⟩
abbrev S1x12x2048x1 : Shape := ⟨4, ![1, 12, 2048, 1]⟩
abbrev S1x64x12x32x32 : Shape := ⟨5, ![1, 64, 12, 32, 32]⟩
abbrev S32x1 : Shape := ⟨2, ![32, 1]⟩
abbrev S32x32 : Shape := ⟨2, ![32, 32]⟩
abbrev S1x1x1x32x32 : Shape := ⟨5, ![1, 1, 1, 32, 32]⟩
abbrev S1x64x12x32 : Shape := ⟨4, ![1, 64, 12, 32]⟩
abbrev S1x64x12x32x1 : Shape := ⟨5, ![1, 64, 12, 32, 1]⟩
abbrev S1x64x12x64x32 : Shape := ⟨5, ![1, 64, 12, 64, 32]⟩

abbrev nBuf : Space → Nat
  | .hbm => 271
  | .vmem => 0
  | .smem => 0
  | _ => 0

abbrev hbmTy0_0 (i : Nat) : BufTy := match i % 128 with
  | 0 => ⟨S1x2048x768, .f32⟩
  | 1 => ⟨S768x768, .f32⟩
  | 2 => ⟨S768x768, .f32⟩
  | 3 => ⟨S768x768, .f32⟩
  | 4 => ⟨S768x24, .f32⟩
  | 5 => ⟨S768x768, .f32⟩
  | 6 => ⟨S1x2048x768, .f32⟩
  | 7 => ⟨S1x2048x12x64, .f32⟩
  | 8 => ⟨S1x2048x768, .f32⟩
  | 9 => ⟨S1x2048x12x64, .f32⟩
  | 10 => ⟨S1x2048x768, .f32⟩
  | 11 => ⟨S1x2048x12x64, .f32⟩
  | 12 => ⟨S1x2048x24, .f32⟩
  | 13 => ⟨S1x2048x12x2, .f32⟩
  | 14 => ⟨S_, .f32⟩
  | 15 => ⟨S1x2048x12, .f32⟩
  | 16 => ⟨S_, .f32⟩
  | 17 => ⟨S1x2048x12, .f32⟩
  | 18 => ⟨S1x2048x12, .f32⟩
  | 19 => ⟨S1x2048x12x1, .f32⟩
  | 20 => ⟨S1x2048x12x2, .f32⟩
  | 21 => ⟨S1x2048x12x2, .f32⟩
  | 22 => ⟨S1x2048x12x2, .f32⟩
  | 23 => ⟨S_, .f32⟩
  | 24 => ⟨S1x2048x12, .f32⟩
  | 25 => ⟨S1x2048x12x1, .f32⟩
  | 26 => ⟨S1x2048x12x2, .f32⟩
  | 27 => ⟨S1x2048x12x2, .f32⟩
  | 28 => ⟨S2048, .f32⟩
  | 29 => ⟨S_, .f32⟩
  | 30 => ⟨S2048, .f32⟩
  | 31 => ⟨S2048, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S2048x1, .f32⟩
  | 49 => ⟨S1x32, .f32⟩
  | 50 => ⟨S2048x32, .f32⟩
  | 51 => ⟨S2048x32, .f32⟩
  | 52 => ⟨S2048x32, .f32⟩
  | 53 => ⟨S2048x32, .f32⟩
  | 54 => ⟨S1x2048x1x32, .f32⟩
  | 55 => ⟨S2048x32, .f32⟩
  | 56 => ⟨S1x2048x1x32, .f32⟩
  | 57 => ⟨S1x2048x12x32, .f32⟩
  | 58 => ⟨S1x2048x12x32, .f32⟩
  | 59 => ⟨S1x2048x12x32, .f32⟩
  | 60 => ⟨S1x2048x12x32, .f32⟩
  | 61 => ⟨S1x2048x12x32, .f32⟩
  | 62 => ⟨S1x2048x12x32, .f32⟩
  | 63 => ⟨S1x2048x12x32, .f32⟩
  | 64 => ⟨S1x2048x12x32, .f32⟩
  | 65 => ⟨S1x2048x12x32, .f32⟩
  | 66 => ⟨S1x2048x12x32, .f32⟩
  | 67 => ⟨S1x2048x12x32, .f32⟩
  | 68 => ⟨S1x2048x12x32, .f32⟩
  | 69 => ⟨S1x2048x12x32x1, .f32⟩
  | 70 => ⟨S1x2048x12x32x1, .f32⟩
  | 71 => ⟨S1x2048x12x32x2, .f32⟩
  | 72 => ⟨S1x2048x12x64, .f32⟩
  | 73 => ⟨S2048, .f32⟩
  | 74 => ⟨S_, .f32⟩
  | 75 => ⟨S2048, .f32⟩
  | 76 => ⟨S2048, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S2048x1, .f32⟩
  | 94 => ⟨S1x32, .f32⟩
  | 95 => ⟨S2048x32, .f32⟩
  | 96 => ⟨S2048x32, .f32⟩
  | 97 => ⟨S2048x32, .f32⟩
  | 98 => ⟨S2048x32, .f32⟩
  | 99 => ⟨S1x2048x1x32, .f32⟩
  | 100 => ⟨S2048x32, .f32⟩
  | 101 => ⟨S1x2048x1x32, .f32⟩
  | 102 => ⟨S1x2048x12x32, .f32⟩
  | 103 => ⟨S1x2048x12x32, .f32⟩
  | 104 => ⟨S1x2048x12x32, .f32⟩
  | 105 => ⟨S1x2048x12x32, .f32⟩
  | 106 => ⟨S1x2048x12x32, .f32⟩
  | 107 => ⟨S1x2048x12x32, .f32⟩
  | 108 => ⟨S1x2048x12x32, .f32⟩
  | 109 => ⟨S1x2048x12x32, .f32⟩
  | 110 => ⟨S1x2048x12x32, .f32⟩
  | 111 => ⟨S1x2048x12x32, .f32⟩
  | 112 => ⟨S1x2048x12x32, .f32⟩
  | 113 => ⟨S1x2048x12x32, .f32⟩
  | 114 => ⟨S1x2048x12x32x1, .f32⟩
  | 115 => ⟨S1x2048x12x32x1, .f32⟩
  | 116 => ⟨S1x2048x12x32x2, .f32⟩
  | 117 => ⟨S1x2048x12x64, .f32⟩
  | 118 => ⟨S1x64x32x12x64, .f32⟩
  | 119 => ⟨S1x64x32x12x64, .f32⟩
  | 120 => ⟨S1x64x32x12x64, .f32⟩
  | 121 => ⟨S_, .f32⟩
  | 122 => ⟨S1x64x12x64, .f32⟩
  | 123 => ⟨S_, .f32⟩
  | 124 => ⟨S1x64x12x64, .f32⟩
  | 125 => ⟨S1x64x12x64, .f32⟩
  | 126 => ⟨S1x12x2048x64, .f32⟩
  | 127 => ⟨S2048, .i32⟩
  | _ => ⟨S1x2048x768, .f32⟩

abbrev hbmTy0_1 (i : Nat) : BufTy := match i % 128 with
  | 0 => ⟨S2048x1, .i32⟩
  | 1 => ⟨S64, .i32⟩
  | 2 => ⟨S1x64, .i32⟩
  | 3 => ⟨S_, .i32⟩
  | 4 => ⟨S1x64, .i32⟩
  | 5 => ⟨S1x64, .i32⟩
  | 6 => ⟨S2048x64, .i32⟩
  | 7 => ⟨S2048x64, .i32⟩
  | 8 => ⟨S2048x64, .i1⟩
  | 9 => ⟨S1x1x2048x64, .i1⟩
  | 10 => ⟨S_, .f32⟩
  | 11 => ⟨S_, .f32⟩
  | 12 => ⟨S1x12x2048x64, .i1⟩
  | 13 => ⟨S1x12x2048x64, .f32⟩
  | 14 => ⟨S1x12x2048x64, .f32⟩
  | 15 => ⟨S1x12x2048x2, .f32⟩
  | 16 => ⟨S1x12x2048x2, .i32⟩
  | 17 => ⟨S1x12x64x32x64, .f32⟩
  | 18 => ⟨S1x12x64x32x64, .f32⟩
  | 19 => ⟨S1, .i32⟩
  | 20 => ⟨S1x1x1x1, .i32⟩
  | 21 => ⟨S12, .i32⟩
  | 22 => ⟨S1x12x1x1, .i32⟩
  | 23 => ⟨S_, .i32⟩
  | 24 => ⟨S1x1x1x1, .i32⟩
  | 25 => ⟨S1x1x1x1, .i1⟩
  | 26 => ⟨S_, .i32⟩
  | 27 => ⟨S1x1x1x1, .i32⟩
  | 28 => ⟨S1x1x1x1, .i32⟩
  | 29 => ⟨S1x1x1x1, .i32⟩
  | 30 => ⟨S_, .i32⟩
  | 31 => ⟨S1x12x1x1, .i32⟩
  | 32 => ⟨S1x12x1x1, .i1⟩
  | 33 => ⟨S_, .i32⟩
  | 34 => ⟨S1x12x1x1, .i32⟩
  | 35 => ⟨S1x12x1x1, .i32⟩
  | 36 => ⟨S1x12x1x1, .i32⟩
  | 37 => ⟨S_, .i32⟩
  | 38 => ⟨S1x12x2048x2, .i32⟩
  | 39 => ⟨S1x12x2048x2, .i1⟩
  | 40 => ⟨S_, .i32⟩
  | 41 => ⟨S1x12x2048x2, .i32⟩
  | 42 => ⟨S1x12x2048x2, .i32⟩
  | 43 => ⟨S1x12x2048x2, .i32⟩
  | 44 => ⟨S1x12x2048x2, .i32⟩
  | 45 => ⟨S1x12x2048x2, .i32⟩
  | 46 => ⟨S1x12x2048x2x1, .i32⟩
  | 47 => ⟨S1x12x2048x2x1, .i32⟩
  | 48 => ⟨S1x12x2048x2x1, .i32⟩
  | 49 => ⟨S1x12x2048x2x3, .i32⟩
  | 50 => ⟨S1x12x2048x2x32x64, .f32⟩
  | 51 => ⟨S_, .i32⟩
  | 52 => ⟨S1x1x1x1, .i32⟩
  | 53 => ⟨S1x1x1x1, .i1⟩
  | 54 => ⟨S_, .i32⟩
  | 55 => ⟨S1x1x1x1, .i32⟩
  | 56 => ⟨S1x1x1x1, .i32⟩
  | 57 => ⟨S1x1x1x1, .i32⟩
  | 58 => ⟨S_, .i32⟩
  | 59 => ⟨S1x12x1x1, .i32⟩
  | 60 => ⟨S1x12x1x1, .i1⟩
  | 61 => ⟨S_, .i32⟩
  | 62 => ⟨S1x12x1x1, .i32⟩
  | 63 => ⟨S1x12x1x1, .i32⟩
  | 64 => ⟨S1x12x1x1, .i32⟩
  | 65 => ⟨S_, .i32⟩
  | 66 => ⟨S1x12x2048x2, .i32⟩
  | 67 => ⟨S1x12x2048x2, .i1⟩
  | 68 => ⟨S_, .i32⟩
  | 69 => ⟨S1x12x2048x2, .i32⟩
  | 70 => ⟨S1x12x2048x2, .i32⟩
  | 71 => ⟨S1x12x2048x2, .i32⟩
  | 72 => ⟨S1x12x2048x2, .i32⟩
  | 73 => ⟨S1x12x2048x2, .i32⟩
  | 74 => ⟨S1x12x2048x2x1, .i32⟩
  | 75 => ⟨S1x12x2048x2x1, .i32⟩
  | 76 => ⟨S1x12x2048x2x1, .i32⟩
  | 77 => ⟨S1x12x2048x2x3, .i32⟩
  | 78 => ⟨S1x12x2048x2x32x64, .f32⟩
  | 79 => ⟨S1x12x2048x64x64, .f32⟩
  | 80 => ⟨S1x12x2048x64x64, .f32⟩
  | 81 => ⟨S1x12x2048x64, .f32⟩
  | 82 => ⟨S_, .f32⟩
  | 83 => ⟨S1x12x2048x64, .f32⟩
  | 84 => ⟨S1x12x2048x64, .f32⟩
  | 85 => ⟨S_, .f32⟩
  | 86 => ⟨S1x12x2048, .f32⟩
  | 87 => ⟨S_, .f32⟩
  | 88 => ⟨S1x12x2048, .f32⟩
  | 89 => ⟨S1x12x2048, .f32⟩
  | 90 => ⟨S1x12x2048x1, .f32⟩
  | 91 => ⟨S1x12x2048x64, .f32⟩
  | 92 => ⟨S1x12x2048x64, .f32⟩
  | 93 => ⟨S1x12x2048x64, .f32⟩
  | 94 => ⟨S_, .f32⟩
  | 95 => ⟨S1x12x2048, .f32⟩
  | 96 => ⟨S1x12x2048x1, .f32⟩
  | 97 => ⟨S1x12x2048x64, .f32⟩
  | 98 => ⟨S1x12x2048x64, .f32⟩
  | 99 => ⟨S1x2048x12x64, .f32⟩
  | 100 => ⟨S1x64x12x32x32, .f32⟩
  | 101 => ⟨S_, .f32⟩
  | 102 => ⟨S1x64x12x32x32, .f32⟩
  | 103 => ⟨S1x64x12x32x32, .f32⟩
  | 104 => ⟨S32, .i32⟩
  | 105 => ⟨S32x1, .i32⟩
  | 106 => ⟨S32, .i32⟩
  | 107 => ⟨S1x32, .i32⟩
  | 108 => ⟨S32x32, .i32⟩
  | 109 => ⟨S32x32, .i32⟩
  | 110 => ⟨S32x32, .i1⟩
  | 111 => ⟨S1x1x1x32x32, .i1⟩
  | 112 => ⟨S_, .f32⟩
  | 113 => ⟨S_, .f32⟩
  | 114 => ⟨S1x64x12x32x32, .i1⟩
  | 115 => ⟨S1x64x12x32x32, .f32⟩
  | 116 => ⟨S1x64x12x32x32, .f32⟩
  | 117 => ⟨S_, .f32⟩
  | 118 => ⟨S1x64x12x32, .f32⟩
  | 119 => ⟨S_, .f32⟩
  | 120 => ⟨S1x64x12x32, .f32⟩
  | 121 => ⟨S1x64x12x32, .f32⟩
  | 122 => ⟨S1x64x12x32x1, .f32⟩
  | 123 => ⟨S1x64x12x32x32, .f32⟩
  | 124 => ⟨S1x64x12x32x32, .f32⟩
  | 125 => ⟨S1x64x12x32x32, .f32⟩
  | 126 => ⟨S_, .f32⟩
  | 127 => ⟨S1x64x12x32, .f32⟩
  | _ => ⟨S1x2048x768, .f32⟩

abbrev hbmTy0_2 (i : Nat) : BufTy := match i % 128 with
  | 0 => ⟨S1x64x12x32x1, .f32⟩
  | 1 => ⟨S1x64x12x32x32, .f32⟩
  | 2 => ⟨S1x64x12x32x32, .f32⟩
  | 3 => ⟨S1x64x12x64x32, .f32⟩
  | 4 => ⟨S1x64x32x12x64, .f32⟩
  | 5 => ⟨S1x2048x12x64, .f32⟩
  | 6 => ⟨S1x2048x12x1, .f32⟩
  | 7 => ⟨S1x2048x12x64, .f32⟩
  | 8 => ⟨S1x2048x12x64, .f32⟩
  | 9 => ⟨S1x2048x12x1, .f32⟩
  | 10 => ⟨S1x2048x12x64, .f32⟩
  | 11 => ⟨S1x2048x12x64, .f32⟩
  | 12 => ⟨S1x2048x12x64, .f32⟩
  | 13 => ⟨S1x2048x768, .f32⟩
  | 14 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_14 : Ref sig .tc := ⟨.hbm, 121, rfl⟩
abbrev main_v100 : Ref sig .tc := ⟨.hbm, 122, rfl⟩
abbrev main_cst_15 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_c : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_16 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v114 : Ref sig .tc := ⟨.hbm, 142, rfl⟩
abbrev main_values : Ref sig .tc := ⟨.hbm, 143, rfl⟩
abbrev main_indices : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_17 : Ref sig .tc := ⟨.hbm, 151, rfl⟩
abbrev main_v121 : Ref sig .tc := ⟨.hbm, 152, rfl⟩
abbrev main_v122 : Ref sig .tc := ⟨.hbm, 153, rfl⟩
abbrev main_c_18 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_c_19 : Ref sig .tc := ⟨.hbm, 158, rfl⟩
abbrev main_v126 : Ref sig .tc := ⟨.hbm, 159, rfl⟩
abbrev main_v127 : Ref sig .tc := ⟨.hbm, 160, rfl⟩
abbrev main_c_20 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_21 : Ref sig .tc := ⟨.hbm, 165, rfl⟩
abbrev main_v131 : Ref sig .tc := ⟨.hbm, 166, rfl⟩
abbrev main_v132 : Ref sig .tc := ⟨.hbm, 167, rfl⟩
abbrev main_c_22 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_c_23 : Ref sig .tc := ⟨.hbm, 179, rfl⟩
abbrev main_v143 : Ref sig .tc := ⟨.hbm, 180, rfl⟩
abbrev main_v144 : Ref sig .tc := ⟨.hbm, 181, rfl⟩
abbrev main_c_24 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_25 : Ref sig .tc := ⟨.hbm, 186, rfl⟩
abbrev main_v148 : Ref sig .tc := ⟨.hbm, 187, rfl⟩
abbrev main_v149 : Ref sig .tc := ⟨.hbm, 188, rfl⟩
abbrev main_c_26 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_c_27 : Ref sig .tc := ⟨.hbm, 193, rfl⟩
abbrev main_v153 : Ref sig .tc := ⟨.hbm, 194, rfl⟩
abbrev main_v154 : Ref sig .tc := ⟨.hbm, 195, rfl⟩
abbrev main_c_28 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_29 : Ref sig .tc := ⟨.hbm, 210, rfl⟩
abbrev main_v168 : Ref sig .tc := ⟨.hbm, 211, rfl⟩
abbrev main_v169 : Ref sig .tc := ⟨.hbm, 212, rfl⟩
abbrev main_cst_30 : Ref sig .tc := ⟨.hbm, 213, rfl⟩
abbrev main_v170 : Ref sig .tc := ⟨.hbm, 214, rfl⟩
abbrev main_cst_31 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_32 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_33 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_34 : Ref sig .tc := ⟨.hbm, 240, rfl⟩
abbrev main_call1_v0 : Ref sig .tc := ⟨.hbm, 241, rfl⟩
abbrev main_call1_v1 : Ref sig .tc := ⟨.hbm, 242, rfl⟩
abbrev main_call1_v2 : Ref sig .tc := ⟨.hbm, 243, rfl⟩
abbrev main_v193 : Ref sig .tc := ⟨.hbm, 244, rfl⟩
abbrev main_cst_35 : Ref sig .tc := ⟨.hbm, 245, rfl⟩
abbrev main_v194 : Ref sig .tc := ⟨.hbm, 246, rfl⟩
abbrev main_cst_36 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_37 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩

abbrev nD : Nat := 1
abbrev τ : Topo := Topo.v7x

variable {F : FTy → Type} [FloatOps F]
-- ==== Proof.R0.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Claim
public import Idealize.ShloMosaic.Lib.Tactic
public import Idealize.ShloMosaic.Lib.UnfoldOut
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the region finds in the TensorCore's buffers
variable (V : (c : Dev nD) → (b : Ref sig .tc) → Buf (Elt F) ((c : Thread nD τ).loc b))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S768x768 := Rect.unit (s := S768x768) ![0, 0] S768x768.size inb_S768x768_S768x768_0_0

abbrev r0_1 : Rect S768x24 := Rect.unit (s := S768x24) ![0, 0] S768x24.size inb_S768x24_S768x24_0_0

abbrev r0_2 : Rect S12x768x256 := Rect.unit (s := S12x768x256) ![0, 0, 0] S1x768x256.size inb_S12x768x256_S1x768x256_0_0_0

abbrev r0_3 : Rect S12x768x256 := Rect.unit (s := S12x768x256) ![1, 0, 0] S1x768x256.size inb_S12x768x256_S1x768x256_1_0_0

abbrev r0_4 : Rect S12x768x256 := Rect.unit (s := S12x768x256) ![2, 0, 0] S1x768x256.size inb_S12x768x256_S1x768x256_2_0_0

abbrev r0_5 : Rect S12x768x256 := Rect.unit (s := S12x768x256) ![3, 0, 0] S1x768x256.size inb_S12x768x256_S1x768x256_3_0_0

abbrev r0_6 : Rect S12x768x256 := Rect.unit (s := S12x768x256) ![4, 0, 0] S1x768x256.size inb_S12x768x256_S1x768x256_4_0_0

abbrev r0_7 : Rect S12x768x256 := Rect.unit (s := S12x768x256) ![5, 0, 0] S1x768x256.size inb_S12x768x256_S1x768x256_5_0_0

abbrev r0_8 : Rect S12x768x256 := Rect.unit (s := S12x768x256) ![6, 0, 0] S1x768x256.size inb_S12x768x256_S1x768x256_6_0_0

abbrev r0_9 : Rect S12x768x256 := Rect.unit (s := S12x768x256) ![7, 0, 0] S1x768x256.size inb_S12x768x256_S1x768x256_7_0_0

abbrev r0_10 : Rect S12x768x256 := Rect.unit (s := S12x768x256) ![8, 0, 0] S1x768x256.size inb_S12x768x256_S1x768x256_8_0_0

abbrev r0_11 : Rect S12x768x256 := Rect.unit (s := S12x768x256) ![9, 0, 0] S1x768x256.size inb_S12x768x256_S1x768x256_9_0_0

abbrev r0_12 : Rect S12x768x256 := Rect.unit (s := S12x768x256) ![10, 0, 0] S1x768x256.size inb_S12x768x256_S1x768x256_10_0_0

abbrev r0_13 : Rect S12x768x256 := Rect.unit (s := S12x768x256) ![11, 0, 0] S1x768x256.size inb_S12x768x256_S1x768x256_11_0_0

def k0_pay16 (x0 : Vec F S768x768 .f32) (x1 : Vec F S768x768 .f32) (x2 : Vec F S768x768 .f32) (x3 : Vec F S768x24 .f32) : FVec F S768x62 .f32 :=
  k0_pay5 (F := F) -- `v4`

/-- What the body leaves in this output. -/
def out0_4 (x0 : Vec F S768x768 .f32) (x1 : Vec F S768x768 .f32) (x2 : Vec F S768x768 .f32) (x3 : Vec F S768x24 .f32) : Vec F S12x768x256 .f32 :=
  View.canon [⟨r0_13, k0_pay4 (View.ld x0 r0_0) (View.ld x1 r0_0) (View.ld x2 r0_0) (View.ld x3 r0_1) (k0_pay16 x0 x1 x2 x3)⟩,
    ⟨r0_12, k0_pay3 (View.ld x0 r0_0) (View.ld x1 r0_0) (View.ld x2 r0_0) (View.ld x3 r0_1) (k0_pay16 x0 x1 x2 x3)⟩,
    ⟨r0_11, k0_pay2 (View.ld x0 r0_0) (View.ld x1 r0_0) (View.ld x2 r0_0) (View.ld x3 r0_1) (k0_pay16 x0 x1 x2 x3)⟩,
    ⟨r0_10, k0_pay1 (k0_pay15 (View.ld x0 r0_0) (View.ld x1 r0_0) (View.ld x2 r0_0) (View.ld x3 r0_1) (k0_pay16 x0 x1 x2 x3))⟩,
    ⟨r0_9, k0_pay14 (View.ld x0 r0_0) (View.ld x1 r0_0) (View.ld x2 r0_0) (View.ld x3 r0_1) (k0_pay16 x0 x1 x2 x3)⟩,
    ⟨r0_8, k0_pay13 (View.ld x0 r0_0) (View.ld x1 r0_0) (View.ld x2 r0_0) (View.ld x3 r0_1) (k0_pay16 x0 x1 x2 x3)⟩,
    ⟨r0_7, k0_pay12 (View.ld x0 r0_0) (View.ld x1 r0_0) (View.ld x2 r0_0) (View.ld x3 r0_1) (k0_pay16 x0 x1 x2 x3)⟩,
    ⟨r0_6, k0_pay11 (View.ld x0 r0_0) (View.ld x1 r0_0) (View.ld x2 r0_0) (View.ld x3 r0_1) (k0_pay16 x0 x1 x2 x3)⟩,
    ⟨r0_5, k0_pay10 (k0_pay9 (View.ld x0 r0_0) (View.ld x1 r0_0) (View.ld x2 r0_0) (View.ld x3 r0_1))⟩,
    ⟨r0_4, k0_pay8 (View.ld x0 r0_0) (View.ld x1 r0_0) (View.ld x2 r0_0) (View.ld x3 r0_1)⟩,
    ⟨r0_3, k0_pay7 (View.ld x0 r0_0) (View.ld x1 r0_0) (View.ld x2 r0_0) (View.ld x3 r0_1)⟩,
    ⟨r0_2, k0_pay6 (View.ld x0 r0_0) (View.ld x1 r0_0) (View.ld x2 r0_0) (View.ld x3 r0_1)⟩]

/-- The stores cover the output block. -/
theorem cover0_4 (p0 : Vec F S1x768x256 .f32) (p1 : Vec F S1x768x256 .f32) (p2 : Vec F S1x768x256 .f32) (p3 : Vec F S1x768x256 .f32) (p4 : Vec F S1x768x256 .f32) (p5 : Vec F S1x768x256 .f32) (p6 : Vec F S1x768x256 .f32) (p7 : Vec F S1x768x256 .f32) (p8 : Vec F S1x768x256 .f32) (p9 : Vec F S1x768x256 .f32) (p10 : Vec F S1x768x256 .f32) (p11 : Vec F S1x768x256 .f32) (y : S12x768x256.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩, ⟨r0_5, p8⟩, ⟨r0_4, p9⟩, ⟨r0_3, p10⟩, ⟨r0_2, p11⟩] : List (View.Piece (Elt F) S12x768x256 .f32)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩, ⟨r0_5, p8⟩, ⟨r0_4, p9⟩, ⟨r0_3, p10⟩, ⟨r0_2, p11⟩] S1x768x256.size (by rfl) y

set_option maxHeartbeats 1000000 in
/-- The body at any grid point. -/
theorem sound_kernel (c : Dev nD) (E : Set ℕ) (i : grid0.Coords) (arg1 : Memref sig .tc .vmem S768x768 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x24 .f32) (harg4 : arg4.IsWhole) (arg5 : Memref sig .tc .vmem S12x768x256 .f32) (harg5 : arg5.IsWhole)
    (x0 : Vec F S768x768 .f32) (x1 : Vec F S768x768 .f32) (x2 : Vec F S768x768 .f32) (x3 : Vec F S768x24 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__pack_kernel i arg1 harg1 arg2 harg2 arg3 harg3 arg4 harg4 arg5 harg5) K := by
  simp only [cc0__pack_kernel_eq_skeleton]; unfold cc0__pack_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _ _ _ _ _ _ _ _ _ _ _ _)).trans ?_
  rfl

/-- The proof data of this region. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out0_4 (iblk V c 0 t) (iblk V c 1 t) (iblk V c 2 t) (iblk V c 3 t)
  Φ _ := Pipeline.ΦA spec0 c
  q _ := fullShare
  owed _ := 0

/-- The proof data's arrays are the region-entry contents: the proof data's definition projected (`dsimp`), so that `V` — a fold over @main's host prefix, long for some programs — is never unfolded to check it. -/
theorem A_eq (c : Dev nD) (w : Fin cfg0.W) : (dat V c).A w = V c (Pipeline.arrRef spec0 w) := by
  dsimp only [dat]

/-- after0 0. -/
theorem after0_0 (c : Dev nD) (t : Fin cfg0.N) : (dat V c).after 0 t = iblk V c 0 t := by dsimp only [dat]

theorem after0_1 (c : Dev nD) (t : Fin cfg0.N) : (dat V c).after 1 t = iblk V c 1 t := by dsimp only [dat]

theorem after0_2 (c : Dev nD) (t : Fin cfg0.N) : (dat V c).after 2 t = iblk V c 2 t := by dsimp only [dat]

theorem after0_3 (c : Dev nD) (t : Fin cfg0.N) : (dat V c).after 3 t = iblk V c 3 t := by dsimp only [dat]

theorem after0_4 (c : Dev nD) (t : Fin cfg0.N) : (dat V c).after 4 t = out0_4 (iblk V c 0 t) (iblk V c 1 t) (iblk V c 2 t) (iblk V c 3 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

theorem before0_1 (c : Dev nD) (t : Fin cfg0.N) (d) : (dat V c).before 1 t d = iblk V c 1 t :=
  before0_1_of V (dat V c) (A_eq V c 1) (after0_1 V c) t d

theorem before0_2 (c : Dev nD) (t : Fin cfg0.N) (d) : (dat V c).before 2 t d = iblk V c 2 t :=
  before0_2_of V (dat V c) (A_eq V c 2) (after0_2 V c) t d

theorem before0_3 (c : Dev nD) (t : Fin cfg0.N) (d) : (dat V c).before 3 t d = iblk V c 3 t :=
  before0_3_of V (dat V c) (A_eq V c 3) (after0_3 V c) t d

/-- What the body is entered with. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks (`before0_W`), so `sound_kernel` applies; the invariant and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).Φ t.succ = (dat V c).Φ t.castSucc from rfl,
    show (dat V c).owesAt () t.succ = (dat V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What a grid point writes back. -/
theorem flushed4 (c : Dev nD) (t : Fin cfg0.N) :
    (dat V c).flushed 4 t = (cfg0.win 4).cut (grid0.coords t) (out0_4 (iblk V c 0 t) (iblk V c 1 t) (iblk V c 2 t) (iblk V c 3 t)) := by
  show (cfg0.win 4).cut (grid0.coords t) ((dat V c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- Distinct points write disjoint blocks. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every point that writes back: no other point's block meets it. -/
theorem blocks4 (c : Dev nD) (t : Fin cfg0.N) (hf : (cfg0.win 4).flush t = true) :
    ((cfg0.win 4).blk t).view.read (Elt F) ((dat V c).arrAt 4 cfg0.N) = (dat V c).flushed 4 t :=
  (dat V c).read_blk_arrAt_eq_flushed 4 disjoint4 cfg0.N t t.isLt hf

end Cert.KernelIdeal.R0

end
-- ==== Proof.R1.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Claim
public import Idealize.ShloMosaic.Lib.Tactic
public import Idealize.ShloMosaic.Lib.UnfoldOut
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the region finds in the TensorCore's buffers
variable (V : (c : Dev nD) → (b : Ref sig .tc) → Buf (Elt F) ((c : Thread nD τ).loc b))

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One staging buffer of output window 4, through which its contents are stated (`View.read_writes_of_cover`: the choice does not matter). -/
abbrev VO1_4 : View sig .tc .vmem S1x512x64 .bf16 := (Memref.whole cc1_stg4_0 : Memref sig .tc .vmem S1x512x64 .bf16).view

/-- One staging buffer of output window 5, through which its contents are stated (`View.read_writes_of_cover`: the choice does not matter). -/
abbrev VO1_5 : View sig .tc .vmem S1x512x64 .bf16 := (Memref.whole cc1_stg5_0 : Memref sig .tc .vmem S1x512x64 .bf16).view

/-- One staging buffer of output window 6, through which its contents are stated (`View.read_writes_of_cover`: the choice does not matter). -/
abbrev VO1_6 : View sig .tc .vmem S1x512x64 .bf16 := (Memref.whole cc1_stg6_0 : Memref sig .tc .vmem S1x512x64 .bf16).view

/-- One staging buffer of output window 7, through which its contents are stated (`View.read_writes_of_cover`: the choice does not matter). -/
abbrev VO1_7 : View sig .tc .vmem S1x16x64 .f32 := (Memref.whole cc1_stg7_0 : Memref sig .tc .vmem S1x16x64 .f32).view

/-- One staging buffer of output window 8, through which its contents are stated (`View.read_writes_of_cover`: the choice does not matter). -/
abbrev VO1_8 : View sig .tc .vmem S1x512x2 .f32 := (Memref.whole cc1_stg8_0 : Memref sig .tc .vmem S1x512x2 .f32).view

/-- Each window's current staging memref at point `t`, spelled as the pipeline passes it (`bodyAt1`), and its wholeness. -/
abbrev ms1_0 (t : Fin cfg1.N) : Memref sig .tc .vmem S512x768 .f32 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S12x768x256 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S512x64 .f32 := win1_2.stage (cfg1.slots t 2)

abbrev hs1_2 (t : Fin cfg1.N) : (ms1_2 t).IsWhole := hstage1_2 ((cfg1.slots t 2).cast nbuf1_2)

abbrev ms1_3 (t : Fin cfg1.N) : Memref sig .tc .vmem S512x64 .f32 := win1_3.stage (cfg1.slots t 3)

abbrev hs1_3 (t : Fin cfg1.N) : (ms1_3 t).IsWhole := hstage1_3 ((cfg1.slots t 3).cast nbuf1_3)

abbrev ms1_4 (t : Fin cfg1.N) : Memref sig .tc .vmem S1x512x64 .bf16 := win1_4.stage (cfg1.slots t 4)

abbrev hs1_4 (t : Fin cfg1.N) : (ms1_4 t).IsWhole := hstage1_4 ((cfg1.slots t 4).cast nbuf1_4)

abbrev ms1_5 (t : Fin cfg1.N) : Memref sig .tc .vmem S1x512x64 .bf16 := win1_5.stage (cfg1.slots t 5)

abbrev hs1_5 (t : Fin cfg1.N) : (ms1_5 t).IsWhole := hstage1_5 ((cfg1.slots t 5).cast nbuf1_5)

abbrev ms1_6 (t : Fin cfg1.N) : Memref sig .tc .vmem S1x512x64 .bf16 := win1_6.stage (cfg1.slots t 6)

abbrev hs1_6 (t : Fin cfg1.N) : (ms1_6 t).IsWhole := hstage1_6 ((cfg1.slots t 6).cast nbuf1_6)

abbrev ms1_7 (t : Fin cfg1.N) : Memref sig .tc .vmem S1x16x64 .f32 := win1_7.stage (cfg1.slots t 7)

abbrev hs1_7 (t : Fin cfg1.N) : (ms1_7 t).IsWhole := hstage1_7 ((cfg1.slots t 7).cast nbuf1_7)

abbrev ms1_8 (t : Fin cfg1.N) : Memref sig .tc .vmem S1x512x2 .f32 := win1_8.stage (cfg1.slots t 8)

abbrev hs1_8 (t : Fin cfg1.N) : (ms1_8 t).IsWhole := hstage1_8 ((cfg1.slots t 8).cast nbuf1_8)

set_option maxHeartbeats 1000000 in
/-- The body run on any whole staging buffers: what its stores leave in each output, with the proof. -/
noncomputable def kernelRun1_A (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) :
    Σ' (L4 : List (View.Piece (Elt F) S1x512x64 .bf16)), Σ' (L5 : List (View.Piece (Elt F) S1x512x64 .bf16)), Σ' (L6 : List (View.Piece (Elt F) S1x512x64 .bf16)), Σ' (L7 : List (View.Piece (Elt F) S1x16x64 .f32)), { L8 : List (View.Piece (Elt F) S1x512x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1__proj_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1__proj_kernel_eq_skeleton]; unfold cc1__proj_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact H8

/-- The stores cover the output block. -/
theorem cover1_A_4 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) (y : S1x512x64.Idx) :
    ∃ pc ∈ (kernelRun1_A c i arg2 harg2 arg3 harg3 arg4 harg4 arg5 harg5 arg6 harg6 arg7 harg7 arg8 harg8 arg9 harg9 arg10 harg10 x0 x1 x2 x3).1, y ∈ pc.1.set :=
  View.cover_of_tiledL (kernelRun1_A c i arg2 harg2 arg3 harg3 arg4 harg4 arg5 harg5 arg6 harg6 arg7 harg7 arg8 harg8 arg9 harg9 arg10 harg10 x0 x1 x2 x3).1 S1x512x64.size (by sl_kernel_rfl) y

/-- What the run leaves in output 4's staging buffer: its pieces read back over junk. -/
def out1_A_4 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) : Vec F S1x512x64 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 x0 x1 x2 x3).1)

/-- The stores cover the output block. -/
theorem cover1_A_5 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) (y : S1x512x64.Idx) :
    ∃ pc ∈ (kernelRun1_A c i arg2 harg2 arg3 harg3 arg4 harg4 arg5 harg5 arg6 harg6 arg7 harg7 arg8 harg8 arg9 harg9 arg10 harg10 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.1 S1x512x64.size (by sl_kernel_rfl) y

/-- What the run leaves in output 5's staging buffer: its pieces read back over junk. -/
def out1_A_5 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) : Vec F S1x512x64 .bf16 :=
  VO1_5.read (Elt F) (VO1_5.writes (Elt F) VO1_5.junk (kernelRun1_A c i arg2 harg2 arg3 harg3 arg4 harg4 arg5 harg5 arg6 harg6 arg7 harg7 arg8 harg8 arg9 harg9 arg10 harg10 x0 x1 x2 x3).2.1)

/-- The stores cover the output block. -/
theorem cover1_A_6 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) (y : S1x512x64.Idx) :
    ∃ pc ∈ (kernelRun1_A c i arg2 harg2 arg3 harg3 arg4 harg4 arg5 harg5 arg6 harg6 arg7 harg7 arg8 harg8 arg9 harg9 arg10 harg10 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.2.1 S1x512x64.size (by sl_kernel_rfl) y

/-- What the run leaves in output 6's staging buffer: its pieces read back over junk. -/
def out1_A_6 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) : Vec F S1x512x64 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 x0 x1 x2 x3).2.2.1)

/-- The stores cover the output block. -/
theorem cover1_A_7 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) (y : S1x16x64.Idx) :
    ∃ pc ∈ (kernelRun1_A c i arg2 harg2 arg3 harg3 arg4 harg4 arg5 harg5 arg6 harg6 arg7 harg7 arg8 harg8 arg9 harg9 arg10 harg10 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.2.2.1 S1x16x64.size (by sl_kernel_rfl) y

/-- What the run leaves in output 7's staging buffer: its pieces read back over junk. -/
def out1_A_7 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) : Vec F S1x16x64 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 x0 x1 x2 x3).2.2.2.1)

/-- The stores cover the output block. -/
theorem cover1_A_8 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) (y : S1x512x2.Idx) :
    ∃ pc ∈ (kernelRun1_A c i arg2 harg2 arg3 harg3 arg4 harg4 arg5 harg5 arg6 harg6 arg7 harg7 arg8 harg8 arg9 harg9 arg10 harg10 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.2.2.2.1 S1x512x2.size (by sl_kernel_rfl) y

/-- What the run leaves in output 8's staging buffer: its pieces read back over junk. -/
def out1_A_8 (c : Dev nD) (i : grid1.Coords) (arg2 : Memref sig .tc .vmem S512x768 .f32) (harg2 : arg2.IsWhole) (arg3 : Memref sig .tc .vmem S12x768x256 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x16x64 .f32) (harg9 : arg9.IsWhole) (arg10 : Memref sig .tc .vmem S1x512x2 .f32) (harg10 : arg10.IsWhole)
    (x0 : Vec F S512x768 .f32) (x1 : Vec F S12x768x256 .f32) (x2 : Vec F S512x64 .f32) (x3 : Vec F S512x64 .f32) : Vec F S1x512x2 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 x0 x1 x2 x3).2.2.2.2.1)

/-- What the outputs' staging buffers hold after the body at point `t` (as a tuple, in window order): the run's contents at the point's memrefs and input blocks. -/
def outsAt1 (c : Dev nD) (t : Fin cfg1.N) : Vec F S1x512x64 .bf16 × Vec F S1x512x64 .bf16 × Vec F S1x512x64 .bf16 × Vec F S1x16x64 .f32 × Vec F S1x512x2 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t))

/-- The proof data of this region. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt1 V c t).1
    | ⟨5, _⟩ => (outsAt1 V c t).2.1
    | ⟨6, _⟩ => (outsAt1 V c t).2.2.1
    | ⟨7, _⟩ => (outsAt1 V c t).2.2.2.1
    | ⟨8, _⟩ => (outsAt1 V c t).2.2.2.2
  Φ _ := Pipeline.ΦA spec1 c
  q _ := fullShare
  owed _ := 0

/-- The proof data's arrays are the region-entry contents: the proof data's definition projected (`dsimp`), so that `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after1_0 (c : Dev nD) (t : Fin cfg1.N) : (dat V c).after 0 t = iblk V c 0 t := by dsimp only [dat]

theorem after1_1 (c : Dev nD) (t : Fin cfg1.N) : (dat V c).after 1 t = iblk V c 1 t := by dsimp only [dat]

theorem after1_2 (c : Dev nD) (t : Fin cfg1.N) : (dat V c).after 2 t = iblk V c 2 t := by dsimp only [dat]

theorem after1_3 (c : Dev nD) (t : Fin cfg1.N) : (dat V c).after 3 t = iblk V c 3 t := by dsimp only [dat]

theorem after1_4 (c : Dev nD) (t : Fin cfg1.N) : (dat V c).after 4 t = (outsAt1 V c t).1 := by dsimp only [dat]

theorem after1_5 (c : Dev nD) (t : Fin cfg1.N) : (dat V c).after 5 t = (outsAt1 V c t).2.1 := by dsimp only [dat]

theorem after1_6 (c : Dev nD) (t : Fin cfg1.N) : (dat V c).after 6 t = (outsAt1 V c t).2.2.1 := by dsimp only [dat]

theorem after1_7 (c : Dev nD) (t : Fin cfg1.N) : (dat V c).after 7 t = (outsAt1 V c t).2.2.2.1 := by dsimp only [dat]

theorem after1_8 (c : Dev nD) (t : Fin cfg1.N) : (dat V c).after 8 t = (outsAt1 V c t).2.2.2.2 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d

theorem before1_1 (c : Dev nD) (t : Fin cfg1.N) (d) : (dat V c).before 1 t d = iblk V c 1 t :=
  before1_1_of V (dat V c) (A_eq V c 1) (after1_1 V c) t d

theorem before1_2 (c : Dev nD) (t : Fin cfg1.N) (d) : (dat V c).before 2 t d = iblk V c 2 t :=
  before1_2_of V (dat V c) (A_eq V c 2) (after1_2 V c) t d

theorem before1_3 (c : Dev nD) (t : Fin cfg1.N) (d) : (dat V c).before 3 t d = iblk V c 3 t :=
  before1_3_of V (dat V c) (A_eq V c 3) (after1_3 V c) t d

/-- What the body is entered with. -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t))

set_option maxHeartbeats 800000 in
/-- The body at any point: the inputs' memrefs hold their blocks (`before1_W`); so the run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).Φ t.succ = (dat V c).Φ t.castSucc from rfl,
    show (dat V c).owesAt () t.succ = (dat V c).owesAt () t.castSucc from rfl,
    after1_0, after1_1, after1_2, after1_3, after1_4, after1_5, after1_6, after1_7, after1_8]
  unfold outsAt1
  unfold out1_A_4 out1_A_5 out1_A_6 out1_A_7 out1_A_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1_A c (grid1.coords t) _ _ _ _ _ _ _ _ _ _ _ _ _ _ _ _ _ _ (iblk V c 0 t) (iblk V c 1 t) (iblk V c 2 t) (iblk V c 3 t)).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _)
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _)
  unfold owns; iexists _; isplitr
  swap; · iexact H8
  ipureintro; exact View.read_writes_of_cover _ _ _ _ _ (cover1_A_8 c _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation at every grid point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- What a grid point writes back. -/
theorem flushed4 (c : Dev nD) (t : Fin cfg1.N) :
    (dat V c).flushed 4 t = (cfg1.win 4).cut (grid1.coords t) ((outsAt1 V c t).1) := by
  show (cfg1.win 4).cut (grid1.coords t) ((dat V c).after 4 t) = _
  rw [after1_4]

/-- What a grid point writes back. -/
theorem flushed4_A (c : Dev nD) (t : Fin cfg1.N) :
    (dat V c).flushed 4 t = (cfg1.win 4).cut (grid1.coords t) (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t)) := by
  simp only [flushed4, outsAt1]

/-- The index map sends distinct grid points to distinct block indices (decided over the 48 points). -/
theorem idx_inj4 : ∀ t t' : Fin cfg1.N, win1_4.index t = win1_4.index t' → t = t' :=
  (by decide +kernel : ∀ t t' : Fin grid1.N, win1_4.index t = win1_4.index t' → t = t')

/-- Distinct points write disjoint blocks. -/
theorem disjoint4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (idx_inj4 t t' h)

/-- BLOCK `t` OF THE FINAL ARRAY, read back through the window, is what point `t` wrote back (`flushed4`), for every point that writes back: no other point's block meets it. -/
theorem blocks4 (c : Dev nD) (t : Fin cfg1.N) (hf : (cfg1.win 4).flush t = true) :
    ((cfg1.win 4).blk t).view.read (Elt F) ((dat V c).arrAt 4 cfg1.N) = (dat V c).flushed 4 t :=
  (dat V c).read_blk_arrAt_eq_flushed 4 disjoint4 cfg1.N t t.isLt hf

/-- What a grid point writes back. -/
theorem flushed5 (c : Dev nD) (t : Fin cfg1.N) :
    (dat V c).flushed 5 t = (cfg1.win 5).cut (grid1.coords t) ((outsAt1 V c t).2.1) := by
  show (cfg1.win 5).cut (grid1.coords t) ((dat V c).after 5 t) = _
  rw [after1_5]

/-- What a grid point writes back. -/
theorem flushed5_A (c : Dev nD) (t : Fin cfg1.N) :
    (dat V c).flushed 5 t = (cfg1.win 5).cut (grid1.coords t) (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t)) := by
  simp only [flushed5, outsAt1]

/-- The index map sends distinct grid points to distinct block indices (decided over the 48 points). -/
theorem idx_inj5 : ∀ t t' : Fin cfg1.N, win1_5.index t = win1_5.index t' → t = t' :=
  (by decide +kernel : ∀ t t' : Fin grid1.N, win1_5.index t = win1_5.index t' → t = t')

/-- Distinct points write disjoint blocks. -/
theorem disjoint5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idx_inj5 t t' h)

/-- BLOCK `t` OF THE FINAL ARRAY, read back through the window, is what point `t` wrote back (`flushed5`), for every point that writes back: no other point's block meets it. -/
theorem blocks5 (c : Dev nD) (t : Fin cfg1.N) (hf : (cfg1.win 5).flush t = true) :
    ((cfg1.win 5).blk t).view.read (Elt F) ((dat V c).arrAt 5 cfg1.N) = (dat V c).flushed 5 t :=
  (dat V c).read_blk_arrAt_eq_flushed 5 disjoint5 cfg1.N t t.isLt hf

/-- What a grid point writes back. -/
theorem flushed6 (c : Dev nD) (t : Fin cfg1.N) :
    (dat V c).flushed 6 t = (cfg1.win 6).cut (grid1.coords t) ((outsAt1 V c t).2.2.1) := by
  show (cfg1.win 6).cut (grid1.coords t) ((dat V c).after 6 t) = _
  rw [after1_6]

/-- What a grid point writes back. -/
theorem flushed6_A (c : Dev nD) (t : Fin cfg1.N) :
    (dat V c).flushed 6 t = (cfg1.win 6).cut (grid1.coords t) (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t)) := by
  simp only [flushed6, outsAt1]

/-- The index map sends distinct grid points to distinct block indices (decided over the 48 points). -/
theorem idx_inj6 : ∀ t t' : Fin cfg1.N, win1_6.index t = win1_6.index t' → t = t' :=
  (by decide +kernel : ∀ t t' : Fin grid1.N, win1_6.index t = win1_6.index t' → t = t')

/-- Distinct points write disjoint blocks. -/
theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-- BLOCK `t` OF THE FINAL ARRAY, read back through the window, is what point `t` wrote back (`flushed6`), for every point that writes back: no other point's block meets it. -/
theorem blocks6 (c : Dev nD) (t : Fin cfg1.N) (hf : (cfg1.win 6).flush t = true) :
    ((cfg1.win 6).blk t).view.read (Elt F) ((dat V c).arrAt 6 cfg1.N) = (dat V c).flushed 6 t :=
  (dat V c).read_blk_arrAt_eq_flushed 6 disjoint6 cfg1.N t t.isLt hf

/-- What a grid point writes back. -/
theorem flushed7 (c : Dev nD) (t : Fin cfg1.N) :
    (dat V c).flushed 7 t = (cfg1.win 7).cut (grid1.coords t) ((outsAt1 V c t).2.2.2.1) := by
  show (cfg1.win 7).cut (grid1.coords t) ((dat V c).after 7 t) = _
  rw [after1_7]

/-- What a grid point writes back. -/
theorem flushed7_A (c : Dev nD) (t : Fin cfg1.N) :
    (dat V c).flushed 7 t = (cfg1.win 7).cut (grid1.coords t) (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t)) := by
  simp only [flushed7, outsAt1]

/-- The index map sends distinct grid points to distinct block indices (decided over the 48 points). -/
theorem idx_inj7 : ∀ t t' : Fin cfg1.N, win1_7.index t = win1_7.index t' → t = t' :=
  (by decide +kernel : ∀ t t' : Fin grid1.N, win1_7.index t = win1_7.index t' → t = t')

/-- Distinct points write disjoint blocks. -/
theorem disjoint7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj7 t t' h)

/-- BLOCK `t` OF THE FINAL ARRAY, read back through the window, is what point `t` wrote back (`flushed7`), for every point that writes back: no other point's block meets it. -/
theorem blocks7 (c : Dev nD) (t : Fin cfg1.N) (hf : (cfg1.win 7).flush t = true) :
    ((cfg1.win 7).blk t).view.read (Elt F) ((dat V c).arrAt 7 cfg1.N) = (dat V c).flushed 7 t :=
  (dat V c).read_blk_arrAt_eq_flushed 7 disjoint7 cfg1.N t t.isLt hf

/-- What a grid point writes back. -/
theorem flushed8 (c : Dev nD) (t : Fin cfg1.N) :
    (dat V c).flushed 8 t = (cfg1.win 8).cut (grid1.coords t) ((outsAt1 V c t).2.2.2.2) := by
  show (cfg1.win 8).cut (grid1.coords t) ((dat V c).after 8 t) = _
  rw [after1_8]

/-- What a grid point writes back. -/
theorem flushed8_A (c : Dev nD) (t : Fin cfg1.N) :
    (dat V c).flushed 8 t = (cfg1.win 8).cut (grid1.coords t) (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk V c 0 t) (iblk V c 1 t) (iblk V c 2 t) (iblk V c 3 t)) := by
  simp only [flushed8, outsAt1]

/-- The index map sends distinct grid points to distinct block indices (decided over the 48 points). -/
theorem idx_inj8 : ∀ t t' : Fin cfg1.N, win1_8.index t = win1_8.index t' → t = t' :=
  (by decide +kernel : ∀ t t' : Fin grid1.N, win1_8.index t = win1_8.index t' → t = t')

/-- Distinct points write disjoint blocks. -/
theorem disjoint8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (idx_inj8 t t' h)

/-- BLOCK `t` OF THE FINAL ARRAY, read back through the window, is what point `t` wrote back (`flushed8`), for every point that writes back: no other point's block meets it. -/
theorem blocks8 (c : Dev nD) (t : Fin cfg1.N) (hf : (cfg1.win 8).flush t = true) :
    ((cfg1.win 8).blk t).view.read (Elt F) ((dat V c).arrAt 8 cfg1.N) = (dat V c).flushed 8 t :=
  (dat V c).read_blk_arrAt_eq_flushed 8 disjoint8 cfg1.N t t.isLt hf

end Cert.KernelIdeal.R1

end
-- ==== Proof.R2.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Claim
public import Idealize.ShloMosaic.Lib.Tactic
public import Idealize.ShloMosaic.Lib.UnfoldOut
public import Idealize.ShloMosaic.Lib.WordCmp

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the region finds in the TensorCore's buffers
variable (V : (c : Dev nD) → (b : Ref sig .tc) → Buf (Elt F) ((c : Thread nD τ).loc b))

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- An input window holds its block at every point. -/
theorem before2_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The condition of the body's `scf.if` 0 (`k2_h1`), from the grid coordinates (the skeleton's scalar chain substituted). -/
abbrev cond2_0 (i : grid2.Coords) : Prop := k2_cond1 i = 1#1

/-- It holds at the points ≡ 0 (mod 12) — by arithmetic of the point. -/
theorem hcond2_0 : ∀ t : Fin cfg2.N, cond2_0 (grid2.coords t) ↔ t.val % 12 = 0 :=
  (fun t => by
    have ht : t.val < 24 := Nat.lt_of_lt_of_eq t.isLt N_2
    have e0 : (grid2.coords t 0).val = t.val / 12 % 2 := Pipeline.Grid.coords_val t 0 (by decide) rfl
    have e1 : (grid2.coords t 1).val = t.val / 1 % 12 := Pipeline.Grid.coords_val t 1 (by decide) rfl
    simp only [cond2_0, k2_cond1, e0, e1]
    word_cmp
   : ∀ t : Fin grid2.N, cond2_0 (grid2.coords t) ↔ t.val % 12 = 0)

/-- The condition of the body's `scf.if` 1 (`k2_h2`), from the grid coordinates (the skeleton's scalar chain substituted). -/
abbrev cond2_1 (i : grid2.Coords) : Prop := k2_cond2 i = 1#1

/-- It holds at the points whose coordinates have 1 ≤ i1 — by arithmetic of the point. -/
theorem hcond2_1 : ∀ t : Fin cfg2.N, cond2_1 (grid2.coords t) ↔ 1 ≤ t.val % 12 :=
  (fun t => by
    have ht : t.val < 24 := Nat.lt_of_lt_of_eq t.isLt N_2
    have e0 : (grid2.coords t 0).val = t.val / 12 % 2 := Pipeline.Grid.coords_val t 0 (by decide) rfl
    have e1 : (grid2.coords t 1).val = t.val / 1 % 12 := Pipeline.Grid.coords_val t 1 (by decide) rfl
    simp only [cond2_1, k2_cond2, e0, e1]
    word_cmp
   : ∀ t : Fin grid2.N, cond2_1 (grid2.coords t) ↔ 1 ≤ t.val % 12)

/-- Window 0 is never idle (an input). -/
theorem liveAt2_0 : ∀ t : Fin cfg2.N, cfg2.idle 0 (grid2.coords t) = false := fun _ => rfl

/-- Window 1 is never idle (an input). -/
theorem liveAt2_1 : ∀ t : Fin cfg2.N, cfg2.idle 1 (grid2.coords t) = false := fun _ => rfl

/-- Window 2 is never idle (an input). -/
theorem liveAt2_2 : ∀ t : Fin cfg2.N, cfg2.idle 2 (grid2.coords t) = false := fun _ => rfl

/-- Window 3 is never idle (an input). -/
theorem liveAt2_3 : ∀ t : Fin cfg2.N, cfg2.idle 3 (grid2.coords t) = false := fun _ => rfl

/-- Window 4 is never idle (an input). -/
theorem liveAt2_4 : ∀ t : Fin cfg2.N, cfg2.idle 4 (grid2.coords t) = false := fun _ => rfl

/-- Window 5 is never idle (an input). -/
theorem liveAt2_5 : ∀ t : Fin cfg2.N, cfg2.idle 5 (grid2.coords t) = false := fun _ => rfl

/-- Window 6 is never idle (an input). -/
theorem liveAt2_6 : ∀ t : Fin cfg2.N, cfg2.idle 6 (grid2.coords t) = false := fun _ => rfl

/-- Window 7 is never idle (an input). -/
theorem liveAt2_7 : ∀ t : Fin cfg2.N, cfg2.idle 7 (grid2.coords t) = false := fun _ => rfl

/-- At which positions the output buffer holds nothing stored yet. -/
def freshTab2_8 : ℕ → Bool
  | 0 => true
  | n + 1 => (0x800800 : ℕ).testBit n

theorem freshTab2_8_step : ∀ t : Fin cfg2.N,
    freshTab2_8 (t.val + 1) = ((cfg2.win 8).flush t || (cfg2.idle 8 (cfg2.grid.coords t) && freshTab2_8 t.val)) := by decide +kernel

theorem fresh2_8_eq (t : Fin cfg2.N) : cfg2.fresh 8 t.val = freshTab2_8 t.val :=
  Pipeline.Cfg.fresh_tab cfg2 8 freshTab2_8 rfl freshTab2_8_step t.val (Nat.le_of_lt t.isLt)

/-- The window is written or read at these points. -/
theorem liveAt2_8_A : ∀ t : Fin cfg2.N, cond2_0 (grid2.coords t) → ¬cond2_1 (grid2.coords t) → cfg2.idle 8 (grid2.coords t) = false := by decide +kernel

/-- The window is written or read at these points. -/
theorem liveAt2_8_B : ∀ t : Fin cfg2.N, ¬cond2_0 (grid2.coords t) → cond2_1 (grid2.coords t) → cfg2.idle 8 (grid2.coords t) = false := by decide +kernel

/-- The output buffer is carried at these points. -/
theorem notFresh2_8_B : ∀ t : Fin cfg2.N, ¬cond2_0 (grid2.coords t) → cond2_1 (grid2.coords t) → cfg2.fresh 8 t.val = false := by
  intro t; rw [fresh2_8_eq t]; revert t; decide +kernel

/-- One staging buffer of output window 8, through which its contents are stated (`View.read_writes_of_cover`: the choice does not matter). -/
abbrev VO2_8 : View sig .tc .vmem S1024x768 .f32 := (Memref.whole cc2_stg8_0 : Memref sig .tc .vmem S1024x768 .f32).view

/-- Each window's current staging memref at point `t`, spelled as the pipeline passes it (`bodyAt2`), and its wholeness. -/
abbrev ms2_0 (t : Fin cfg2.N) : Memref sig .tc .vmem S1x1024x64 .bf16 := win2_0.stage (cfg2.slots t 0)

abbrev hs2_0 (t : Fin cfg2.N) : (ms2_0 t).IsWhole := hstage2_0 ((cfg2.slots t 0).cast nbuf2_0)

abbrev ms2_1 (t : Fin cfg2.N) : Memref sig .tc .vmem S12x2048x64 .bf16 := win2_1.stage (cfg2.slots t 1)

abbrev hs2_1 (t : Fin cfg2.N) : (ms2_1 t).IsWhole := hstage2_1 ((cfg2.slots t 1).cast nbuf2_1)

abbrev ms2_2 (t : Fin cfg2.N) : Memref sig .tc .vmem S12x2048x64 .bf16 := win2_2.stage (cfg2.slots t 2)

abbrev hs2_2 (t : Fin cfg2.N) : (ms2_2 t).IsWhole := hstage2_2 ((cfg2.slots t 2).cast nbuf2_2)

abbrev ms2_3 (t : Fin cfg2.N) : Memref sig .tc .vmem S12x64x64 .f32 := win2_3.stage (cfg2.slots t 3)

abbrev hs2_3 (t : Fin cfg2.N) : (ms2_3 t).IsWhole := hstage2_3 ((cfg2.slots t 3).cast nbuf2_3)

abbrev ms2_4 (t : Fin cfg2.N) : Memref sig .tc .vmem S1x1024x2 .f32 := win2_4.stage (cfg2.slots t 4)

abbrev hs2_4 (t : Fin cfg2.N) : (ms2_4 t).IsWhole := hstage2_4 ((cfg2.slots t 4).cast nbuf2_4)

abbrev ms2_5 (t : Fin cfg2.N) : Memref sig .tc .vmem S12x64x768 .f32 := win2_5.stage (cfg2.slots t 5)

abbrev hs2_5 (t : Fin cfg2.N) : (ms2_5 t).IsWhole := hstage2_5 ((cfg2.slots t 5).cast nbuf2_5)

abbrev ms2_6 (t : Fin cfg2.N) : Memref sig .tc .vmem S1024x1024 .f32 := win2_6.stage (cfg2.slots t 6)

abbrev hs2_6 (t : Fin cfg2.N) : (ms2_6 t).IsWhole := hstage2_6 ((cfg2.slots t 6).cast nbuf2_6)

abbrev ms2_7 (t : Fin cfg2.N) : Memref sig .tc .vmem S64x2048 .f32 := win2_7.stage (cfg2.slots t 7)

abbrev hs2_7 (t : Fin cfg2.N) : (ms2_7 t).IsWhole := hstage2_7 ((cfg2.slots t 7).cast nbuf2_7)

abbrev ms2_8 (t : Fin cfg2.N) : Memref sig .tc .vmem S1024x768 .f32 := win2_8.stage (cfg2.slots t 8)

abbrev hs2_8 (t : Fin cfg2.N) : (ms2_8 t).IsWhole := hstage2_8 ((cfg2.slots t 8).cast nbuf2_8)

set_option maxHeartbeats 1000000 in
/-- The body run on any whole staging buffers: what its stores leave in each output, with the proof. -/
noncomputable def kernelRun2_A (c : Dev nD) (i : grid2.Coords) (arg2 : Memref sig .tc .vmem S1x1024x64 .bf16) (harg2 : arg2.IsWhole) (arg3 : Memref sig .tc .vmem S12x2048x64 .bf16) (harg3 : arg3.IsWhole) (arg4 : Memref sig .tc .vmem S12x2048x64 .bf16) (harg4 : arg4.IsWhole) (arg5 : Memref sig .tc .vmem S12x64x64 .f32) (harg5 : arg5.IsWhole) (arg6 : Memref sig .tc .vmem S1x1024x2 .f32) (harg6 : arg6.IsWhole) (arg7 : Memref sig .tc .vmem S12x64x768 .f32) (harg7 : arg7.IsWhole) (arg8 : Memref sig .tc .vmem S1024x1024 .f32) (harg8 : arg8.IsWhole) (arg9 : Memref sig .tc .vmem S64x2048 .f32) (harg9 : arg9.IsWhole) (arg10 : Memref sig .tc .vmem S1024x768 .f32) (harg10 : arg10.IsWhole) (hc0 : cond2_0 i) (hc1 : ¬cond2_1 i)
    (x0 : Vec F S1x1024x64 .bf16) (x1 : Vec F S12x2048x64 .bf16) (x2 : Vec F S12x2048x64 .bf16) (x3 : Vec F S12x64x64 .f32) (x4 : Vec F S1x1024x2 .f32) (x5 : Vec F S12x64x768 .f32) (x6 : Vec F S1024x1024 .f32) (x7 : Vec F S64x2048 .f32) :
    { L8 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, fun E K => ?run⟩
  case run =>
    simp only [cc2__attn_kernel_eq_skeleton]; unfold cc2__attn_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

set_option maxHeartbeats 1000000 in
/-- The body run on any whole staging buffers: what its stores leave in each output, with the proof. -/
noncomputable def kernelRun2_B (c : Dev nD) (i : grid2.Coords) (arg2 : Memref sig .tc .vmem S1x1024x64 .bf16) (harg2 : arg2.IsWhole) (arg3 : Memref sig .tc .vmem S12x2048x64 .bf16) (harg3 : arg3.IsWhole) (arg4 : Memref sig .tc .vmem S12x2048x64 .bf16) (harg4 : arg4.IsWhole) (arg5 : Memref sig .tc .vmem S12x64x64 .f32) (harg5 : arg5.IsWhole) (arg6 : Memref sig .tc .vmem S1x1024x2 .f32) (harg6 : arg6.IsWhole) (arg7 : Memref sig .tc .vmem S12x64x768 .f32) (harg7 : arg7.IsWhole) (arg8 : Memref sig .tc .vmem S1024x1024 .f32) (harg8 : arg8.IsWhole) (arg9 : Memref sig .tc .vmem S64x2048 .f32) (harg9 : arg9.IsWhole) (arg10 : Memref sig .tc .vmem S1024x768 .f32) (harg10 : arg10.IsWhole) (hc0 : ¬cond2_0 i) (hc1 : cond2_1 i)
    (x0 : Vec F S1x1024x64 .bf16) (x1 : Vec F S12x2048x64 .bf16) (x2 : Vec F S12x2048x64 .bf16) (x3 : Vec F S12x64x64 .f32) (x4 : Vec F S1x1024x2 .f32) (x5 : Vec F S12x64x768 .f32) (x6 : Vec F S1024x1024 .f32) (x7 : Vec F S64x2048 .f32) (xo8 : Vec F S1024x768 .f32) :
    { L8 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, fun E K => ?run⟩
  case run =>
    simp only [cc2__attn_kernel_eq_skeleton]; unfold cc2__attn_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

/-- The stores cover the output block. -/
theorem cover2_A_8 (c : Dev nD) (i : grid2.Coords) (arg2 : Memref sig .tc .vmem S1x1024x64 .bf16) (harg2 : arg2.IsWhole) (arg3 : Memref sig .tc .vmem S12x2048x64 .bf16) (harg3 : arg3.IsWhole) (arg4 : Memref sig .tc .vmem S12x2048x64 .bf16) (harg4 : arg4.IsWhole) (arg5 : Memref sig .tc .vmem S12x64x64 .f32) (harg5 : arg5.IsWhole) (arg6 : Memref sig .tc .vmem S1x1024x2 .f32) (harg6 : arg6.IsWhole) (arg7 : Memref sig .tc .vmem S12x64x768 .f32) (harg7 : arg7.IsWhole) (arg8 : Memref sig .tc .vmem S1024x1024 .f32) (harg8 : arg8.IsWhole) (arg9 : Memref sig .tc .vmem S64x2048 .f32) (harg9 : arg9.IsWhole) (arg10 : Memref sig .tc .vmem S1024x768 .f32) (harg10 : arg10.IsWhole) (hc0 : cond2_0 i) (hc1 : ¬cond2_1 i)
    (x0 : Vec F S1x1024x64 .bf16) (x1 : Vec F S12x2048x64 .bf16) (x2 : Vec F S12x2048x64 .bf16) (x3 : Vec F S12x64x64 .f32) (x4 : Vec F S1x1024x2 .f32) (x5 : Vec F S12x64x768 .f32) (x6 : Vec F S1024x1024 .f32) (x7 : Vec F S64x2048 .f32) (y : S1024x768.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5 x6 x7).1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5 x6 x7).1 S1024x768.size (by sl_kernel_rfl) y

/-- What case A leaves in output 8's staging buffer: its pieces read back over junk. -/
def out2_A_8 (c : Dev nD) (i : grid2.Coords) (arg2 : Memref sig .tc .vmem S1x1024x64 .bf16) (harg2 : arg2.IsWhole) (arg3 : Memref sig .tc .vmem S12x2048x64 .bf16) (harg3 : arg3.IsWhole) (arg4 : Memref sig .tc .vmem S12x2048x64 .bf16) (harg4 : arg4.IsWhole) (arg5 : Memref sig .tc .vmem S12x64x64 .f32) (harg5 : arg5.IsWhole) (arg6 : Memref sig .tc .vmem S1x1024x2 .f32) (harg6 : arg6.IsWhole) (arg7 : Memref sig .tc .vmem S12x64x768 .f32) (harg7 : arg7.IsWhole) (arg8 : Memref sig .tc .vmem S1024x1024 .f32) (harg8 : arg8.IsWhole) (arg9 : Memref sig .tc .vmem S64x2048 .f32) (harg9 : arg9.IsWhole) (arg10 : Memref sig .tc .vmem S1024x768 .f32) (harg10 : arg10.IsWhole) (hc0 : cond2_0 i) (hc1 : ¬cond2_1 i)
    (x0 : Vec F S1x1024x64 .bf16) (x1 : Vec F S12x2048x64 .bf16) (x2 : Vec F S12x2048x64 .bf16) (x3 : Vec F S12x64x64 .f32) (x4 : Vec F S1x1024x2 .f32) (x5 : Vec F S12x64x768 .f32) (x6 : Vec F S1024x1024 .f32) (x7 : Vec F S64x2048 .f32) : Vec F S1024x768 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 hc0 hc1 x0 x1 x2 x3 x4 x5 x6 x7).1)

/-- The stores cover the output block. -/
theorem cover2_B_8 (c : Dev nD) (i : grid2.Coords) (arg2 : Memref sig .tc .vmem S1x1024x64 .bf16) (harg2 : arg2.IsWhole) (arg3 : Memref sig .tc .vmem S12x2048x64 .bf16) (harg3 : arg3.IsWhole) (arg4 : Memref sig .tc .vmem S12x2048x64 .bf16) (harg4 : arg4.IsWhole) (arg5 : Memref sig .tc .vmem S12x64x64 .f32) (harg5 : arg5.IsWhole) (arg6 : Memref sig .tc .vmem S1x1024x2 .f32) (harg6 : arg6.IsWhole) (arg7 : Memref sig .tc .vmem S12x64x768 .f32) (harg7 : arg7.IsWhole) (arg8 : Memref sig .tc .vmem S1024x1024 .f32) (harg8 : arg8.IsWhole) (arg9 : Memref sig .tc .vmem S64x2048 .f32) (harg9 : arg9.IsWhole) (arg10 : Memref sig .tc .vmem S1024x768 .f32) (harg10 : arg10.IsWhole) (hc0 : ¬cond2_0 i) (hc1 : cond2_1 i)
    (x0 : Vec F S1x1024x64 .bf16) (x1 : Vec F S12x2048x64 .bf16) (x2 : Vec F S12x2048x64 .bf16) (x3 : Vec F S12x64x64 .f32) (x4 : Vec F S1x1024x2 .f32) (x5 : Vec F S12x64x768 .f32) (x6 : Vec F S1024x1024 .f32) (x7 : Vec F S64x2048 .f32) (xo8 : Vec F S1024x768 .f32) (y : S1024x768.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 x6 x7 xo8).1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 x6 x7 xo8).1 S1024x768.size (by sl_kernel_rfl) y

/-- What case B leaves in output 8's staging buffer: its pieces read back over junk. -/
def out2_B_8 (c : Dev nD) (i : grid2.Coords) (arg2 : Memref sig .tc .vmem S1x1024x64 .bf16) (harg2 : arg2.IsWhole) (arg3 : Memref sig .tc .vmem S12x2048x64 .bf16) (harg3 : arg3.IsWhole) (arg4 : Memref sig .tc .vmem S12x2048x64 .bf16) (harg4 : arg4.IsWhole) (arg5 : Memref sig .tc .vmem S12x64x64 .f32) (harg5 : arg5.IsWhole) (arg6 : Memref sig .tc .vmem S1x1024x2 .f32) (harg6 : arg6.IsWhole) (arg7 : Memref sig .tc .vmem S12x64x768 .f32) (harg7 : arg7.IsWhole) (arg8 : Memref sig .tc .vmem S1024x1024 .f32) (harg8 : arg8.IsWhole) (arg9 : Memref sig .tc .vmem S64x2048 .f32) (harg9 : arg9.IsWhole) (arg10 : Memref sig .tc .vmem S1024x768 .f32) (harg10 : arg10.IsWhole) (hc0 : ¬cond2_0 i) (hc1 : cond2_1 i)
    (x0 : Vec F S1x1024x64 .bf16) (x1 : Vec F S12x2048x64 .bf16) (x2 : Vec F S12x2048x64 .bf16) (x3 : Vec F S12x64x64 .f32) (x4 : Vec F S1x1024x2 .f32) (x5 : Vec F S12x64x768 .f32) (x6 : Vec F S1024x1024 .f32) (x7 : Vec F S64x2048 .f32) (xo8 : Vec F S1024x768 .f32) : Vec F S1024x768 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 hc0 hc1 x0 x1 x2 x3 x4 x5 x6 x7 xo8).1)

/-- What the body leaves in this output. -/
def outsAt2 (c : Dev nD) : (n : ℕ) → n < cfg2.N → Vec F S1024x768 .f32
  | 0, hn => out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩)
  | n + 1, hn =>
    if h0 : (n + 1) % 12 = 0 then
      if h1 : 1 ≤ (n + 1) % 12 then
        False.elim (by have hN : n + 1 < 24 := lt_of_lt_of_eq hn (show cfg2.N = 24 from N_2); omega)
      else
        out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩)
    else
      if h1 : 1 ≤ (n + 1) % 12 then
        out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt2 c n (Nat.lt_of_succ_lt hn))
      else
        False.elim (by have hN : n + 1 < 24 := lt_of_lt_of_eq hn (show cfg2.N = 24 from N_2); omega)

/-- `outsAt2` at a point of case A: that case's contents. -/
theorem outsAt2_A (c : Dev nD) (t : Fin cfg2.N) (h0 : t.val % 12 = 0) (h1 : ¬1 ≤ t.val % 12) :
    outsAt2 V c t.val t.isLt = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 12 = 0) (h1 : 1 ≤ t.val % 12) :
    outsAt2 V c t.val t.isLt = out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of this region. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt2 V c t.val t.isLt)
  Φ _ := Pipeline.ΦA spec2 c
  q _ := fullShare
  owed _ := 0

/-- The proof data's arrays are the region-entry contents: the proof data's definition projected (`dsimp`), so that `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]

theorem after2_1 (c : Dev nD) (t : Fin cfg2.N) : (dat V c).after 1 t = iblk V c 1 t := by dsimp only [dat]

theorem after2_2 (c : Dev nD) (t : Fin cfg2.N) : (dat V c).after 2 t = iblk V c 2 t := by dsimp only [dat]

theorem after2_3 (c : Dev nD) (t : Fin cfg2.N) : (dat V c).after 3 t = iblk V c 3 t := by dsimp only [dat]

theorem after2_4 (c : Dev nD) (t : Fin cfg2.N) : (dat V c).after 4 t = iblk V c 4 t := by dsimp only [dat]

theorem after2_5 (c : Dev nD) (t : Fin cfg2.N) : (dat V c).after 5 t = iblk V c 5 t := by dsimp only [dat]

theorem after2_6 (c : Dev nD) (t : Fin cfg2.N) : (dat V c).after 6 t = iblk V c 6 t := by dsimp only [dat]

theorem after2_7 (c : Dev nD) (t : Fin cfg2.N) : (dat V c).after 7 t = iblk V c 7 t := by dsimp only [dat]

theorem after2_8 (c : Dev nD) (t : Fin cfg2.N) : (dat V c).after 8 t = (outsAt2 V c t.val t.isLt) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d

theorem before2_1 (c : Dev nD) (t : Fin cfg2.N) (d) : (dat V c).before 1 t d = iblk V c 1 t :=
  before2_1_of V (dat V c) (A_eq V c 1) (after2_1 V c) t d

theorem before2_2 (c : Dev nD) (t : Fin cfg2.N) (d) : (dat V c).before 2 t d = iblk V c 2 t :=
  before2_2_of V (dat V c) (A_eq V c 2) (after2_2 V c) t d

theorem before2_3 (c : Dev nD) (t : Fin cfg2.N) (d) : (dat V c).before 3 t d = iblk V c 3 t :=
  before2_3_of V (dat V c) (A_eq V c 3) (after2_3 V c) t d

theorem before2_4 (c : Dev nD) (t : Fin cfg2.N) (d) : (dat V c).before 4 t d = iblk V c 4 t :=
  before2_4_of V (dat V c) (A_eq V c 4) (after2_4 V c) t d

theorem before2_5 (c : Dev nD) (t : Fin cfg2.N) (d) : (dat V c).before 5 t d = iblk V c 5 t :=
  before2_5_of V (dat V c) (A_eq V c 5) (after2_5 V c) t d

theorem before2_6 (c : Dev nD) (t : Fin cfg2.N) (d) : (dat V c).before 6 t d = iblk V c 6 t :=
  before2_6_of V (dat V c) (A_eq V c 6) (after2_6 V c) t d

theorem before2_7 (c : Dev nD) (t : Fin cfg2.N) (d) : (dat V c).before 7 t d = iblk V c 7 t :=
  before2_7_of V (dat V c) (A_eq V c 7) (after2_7 V c) t d

/-- The output carries through points that store nothing. -/
theorem hcarry2_8 (c : Dev nD) : ∀ (t : Fin cfg2.N) (_ : t.val ≠ 0), cfg2.idle 8 (grid2.coords t) = true → cfg2.fresh 8 t.val = false →
    (dat V c).after 8 t = (dat V c).after 8 ⟨t.val - 1, by omega⟩ := by
  intro t _ hi _
  have hN : t.val < 24 := lt_of_lt_of_eq t.isLt (show cfg2.N = 24 from N_2)
  rw [after2_8, after2_8]
  by_cases h0 : t.val % 12 = 0
  · by_cases h1 : 1 ≤ t.val % 12
    · exfalso; omega
    · rw [liveAt2_8_A t ((hcond2_0 t).mpr h0) (fun h => h1 ((hcond2_1 t).mp h))] at hi
      exact absurd hi Bool.false_ne_true
  · by_cases h1 : 1 ≤ t.val % 12
    · rw [liveAt2_8_B t (fun h => h0 ((hcond2_0 t).mp h)) ((hcond2_1 t).mpr h1)] at hi
      exact absurd hi Bool.false_ne_true
    · exfalso; omega

/-- An input window holds its block at every point. -/
theorem before2_8_B (c : Dev nD) (t : Fin cfg2.N) (h0 : ¬t.val % 12 = 0) (h1 : 1 ≤ t.val % 12) (d) :
    (dat V c).before 8 t d = (outsAt2 V c (t.val - 1) (Nat.lt_of_le_of_lt (Nat.sub_le _ _) t.isLt)) := by
  rw [Dat.before_out_traj _ 8 rfl (fun _ _ => rfl) (hcarry2_8 V c) t.val t rfl d,
    if_neg (by rw [notFresh2_8_B t (fun h => h0 ((hcond2_0 t).mp h)) ((hcond2_1 t).mpr h1)]; exact Bool.false_ne_true)]
  dsimp only [dat]

/-- What the body is entered with. -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d))
    ∗ (∃ d, owns (c : Thread nD τ) (ms2_6 t) fullShare ((dat V c).before 6 t d))
    ∗ (∃ d, owns (c : Thread nD τ) (ms2_7 t) fullShare ((dat V c).before 7 t d))
    ∗ (∃ d, owns (c : Thread nD τ) (ms2_8 t) fullShare ((dat V c).before 8 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 1600000 in
/-- The body at any grid point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6, before2_7]
  rw [show (dat V c).Φ t.succ = (dat V c).Φ t.castSucc from rfl,
    show (dat V c).owesAt () t.succ = (dat V c).owesAt () t.castSucc from rfl]
  have hN : t.val < 24 := lt_of_lt_of_eq t.isLt (show cfg2.N = 24 from N_2)
  by_cases h0 : t.val % 12 = 0
  · by_cases h1 : 1 ≤ t.val % 12
    · exfalso; omega
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [show (dat V c).leavesExact 5 t = owns (c : Thread nD τ) (ms2_5 t) fullShare ((dat V c).after 5 t) from by
      unfold Dat.leavesExact; rw [liveAt2_5 t], after2_5]
      rw [show (dat V c).leavesExact 6 t = owns (c : Thread nD τ) (ms2_6 t) fullShare ((dat V c).after 6 t) from by
      unfold Dat.leavesExact; rw [liveAt2_6 t], after2_6]
      rw [show (dat V c).leavesExact 7 t = owns (c : Thread nD τ) (ms2_7 t) fullShare ((dat V c).after 7 t) from by
      unfold Dat.leavesExact; rw [liveAt2_7 t], after2_7]
      rw [show (dat V c).leavesExact 8 t = owns (c : Thread nD τ) (ms2_8 t) fullShare ((dat V c).after 8 t) from by
      unfold Dat.leavesExact; rw [liveAt2_8_A t ((hcond2_0 t).mpr h0) (fun h => h1 ((hcond2_1 t).mp h))], after2_8]
      rw [outsAt2_A V c t h0 h1]
      unfold out2_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover2_A_8 c _ _ _ _ _ _ _ _ _ _ _ _ _ _ _ _ _ _ _ _ _ _ _ _ _ _ _ _ _)
  · by_cases h1 : 1 ≤ t.val % 12
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [show (dat V c).leavesExact 5 t = owns (c : Thread nD τ) (ms2_5 t) fullShare ((dat V c).after 5 t) from by
      unfold Dat.leavesExact; rw [liveAt2_5 t], after2_5]
      rw [show (dat V c).leavesExact 6 t = owns (c : Thread nD τ) (ms2_6 t) fullShare ((dat V c).after 6 t) from by
      unfold Dat.leavesExact; rw [liveAt2_6 t], after2_6]
      rw [show (dat V c).leavesExact 7 t = owns (c : Thread nD τ) (ms2_7 t) fullShare ((dat V c).after 7 t) from by
      unfold Dat.leavesExact; rw [liveAt2_7 t], after2_7]
      rw [show (dat V c).leavesExact 8 t = owns (c : Thread nD τ) (ms2_8 t) fullShare ((dat V c).after 8 t) from by
      unfold Dat.leavesExact; rw [liveAt2_8_B t (fun h => h0 ((hcond2_0 t).mp h)) ((hcond2_1 t).mpr h1)], after2_8]
      rw [outsAt2_B V c t h0 h1]
      simp only [before2_8_B V c t h0 h1]
      unfold out2_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _)
    · exfalso; omega

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The body obligation at every grid point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

/-- What a grid point writes back. -/
theorem flushed8 (c : Dev nD) (t : Fin cfg2.N) :
    (dat V c).flushed 8 t = (cfg2.win 8).cut (grid2.coords t) (outsAt2 V c t.val t.isLt) := by
  show (cfg2.win 8).cut (grid2.coords t) ((dat V c).after 8 t) = _
  rw [after2_8]

/-- What a grid point writes back. -/
theorem flushed8_A (c : Dev nD) (t : Fin cfg2.N) (h0 : t.val % 12 = 0) (h1 : ¬1 ≤ t.val % 12) :
    (dat V c).flushed 8 t = (cfg2.win 8).cut (grid2.coords t) (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t)) := by
  simp only [flushed8, outsAt2_A V c t h0 h1]

/-- What a grid point writes back. -/
theorem flushed8_B (c : Dev nD) (t : Fin cfg2.N) (h0 : ¬t.val % 12 = 0) (h1 : 1 ≤ t.val % 12) :
    (dat V c).flushed 8 t = (cfg2.win 8).cut (grid2.coords t) (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (outsAt2 V c (t.val - 1) (Nat.lt_of_le_of_lt (Nat.sub_le _ _) t.isLt))) := by
  simp only [flushed8, outsAt2_B V c t h0 h1]

end Cert.KernelIdeal.R2

end
-- ==== Proof.Run.lean ====
module

public import proofs.«01_k».proof.Proof.R0
public import proofs.«01_k».proof.Proof.R1
public import proofs.«01_k».proof.Proof.R2
public import Idealize.ShloMosaic.Lib.Pipeline.RegionArraysS
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Claim
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- A valuation read at the TensorCore's references. -/
abbrev rd (W : Dev nD → Valuation τ sig (Elt F)) (c : Dev nD) (b : Ref sig .tc) : Buf (Elt F) ((c : Thread nD τ).loc b) := W c (Proc.devRef .tc b)

/-- The first region's proof data. -/
abbrev d0 (c : Dev nD) : Dat τ (Elt F) Unit ℕ (UR sig nD τ) ℕ cfg0 c := R0.dat (rd (V1 m)) c

/-- What the first region leaves. -/
def outsA : Outs (F := F) := fun _ r c => Pipeline.afterRegion (d0 m c) (V1 m c) (Proc.devRef .tc r)

/-- The second region's proof data. -/
abbrev d1 (c : Dev nD) : Dat τ (Elt F) Unit ℕ (UR sig nD τ) ℕ cfg1 c := R1.dat (rd (V5 m (outsA m))) c

/-- What the first two regions leave. -/
def outsB : Outs (F := F) := fun J r c =>
  if J = 6 then Pipeline.afterRegion (d1 m c) (V5 m (outsA m) c) (Proc.devRef .tc r) else outsA m J r c

/-- The third region's proof data. -/
abbrev d2 (c : Dev nD) : Dat τ (Elt F) Unit ℕ (UR sig nD τ) ℕ cfg2 c := R2.dat (rd (V6 m (outsB m))) c

/-- What the three regions leave. -/
def outs : Outs (F := F) := fun J r c =>
  if J = 7 then Pipeline.afterRegion (d2 m c) (V6 m (outsB m) c) (Proc.devRef .tc r) else outsB m J r c

theorem V5_A (c : Dev nD) : V5 m (outs m) c = V5 m (outsA m) c := by
  have h : V2 m (outs m) c = V2 m (outsA m) c := rfl
  unfold V5 V4 V3
  rw [h]

theorem V6_B (c : Dev nD) : V6 m (outs m) c = V6 m (outsB m) c := by
  have h : V2 m (outs m) c = V2 m (outsB m) c := rfl
  unfold V6 V5 V4 V3
  rw [h]; rfl

/-- A buffer that is no output array of a region is as the region found it. -/
theorem afterRegion_keep {Λ : Idealize.SL.Sem.Labels} {cfg : Cfg sig Λ} {c : Dev nD} (d : Dat τ (Elt F) Unit ℕ (UR sig nD τ) ℕ cfg c) (W : Valuation τ sig (Elt F))
    (hinj : Function.Injective (Pipeline.arrRef cfg.spec)) (hA : ∀ w, d.A w = W (Proc.devRef .tc (Pipeline.arrRef cfg.spec w))) (b : DevRef τ sig)
    (h : ∀ w, (cfg.win w).isOut = true → b ≠ Proc.devRef .tc (Pipeline.arrRef cfg.spec w)) : Pipeline.afterRegion d W b = W b := by
  by_cases hb : ∃ w, b = Proc.devRef .tc (Pipeline.arrRef cfg.spec w)
  · obtain ⟨w, rfl⟩ := hb
    have hw : (cfg.win w).isOut = false := by
      cases e : (cfg.win w).isOut
      · rfl
      · exact absurd rfl (h w e)
    exact (Pipeline.afterRegion_arr d W hinj w).trans ((d.arrAt_in w hw _).trans (hA w))
  · unfold Pipeline.afterRegion
    rw [dif_neg hb]

theorem after0 (c : Dev nD) : Pipeline.afterRegion (d0 m c) (V1 m c) = V2 m (outs m) c := by
  funext b
  by_cases h : b = Proc.devRef .tc main_v1
  · subst h; unfold V2; rw [Function.update_self]; rfl
  · unfold V2; rw [Function.update_of_ne h]
    refine afterRegion_keep _ _ winFacts0.arr_inj (fun w => R0.A_eq _ c w) b fun w hw => ?_
    fin_cases w <;> first | exact absurd hw (by decide) | exact h

theorem after1 (c : Dev nD) : Pipeline.afterRegion (d1 m c) (V5 m (outs m) c) = V6 m (outs m) c := by
  rw [V5_A]
  have e : V6 m (outs m) c = Function.update (Function.update (Function.update (Function.update (Function.update (V5 m (outsA m) c) main_v42_0 (outs m 6 main_v42_0 c)) main_v42_1 (outs m 6 main_v42_1 c)) main_v42_2 (outs m 6 main_v42_2 c)) main_v42_3 (outs m 6 main_v42_3 c)) main_v42_4 (outs m 6 main_v42_4 c) := by
    rw [← V5_A]
  rw [e]
  funext b
  by_cases h4 : b = Proc.devRef .tc main_v42_4
  · subst h4; rw [Function.update_self]; rfl
  rw [Function.update_of_ne h4]
  by_cases h3 : b = Proc.devRef .tc main_v42_3
  · subst h3; rw [Function.update_self]; rfl
  rw [Function.update_of_ne h3]
  by_cases h2 : b = Proc.devRef .tc main_v42_2
  · subst h2; rw [Function.update_self]; rfl
  rw [Function.update_of_ne h2]
  by_cases h1 : b = Proc.devRef .tc main_v42_1
  · subst h1; rw [Function.update_self]; rfl
  rw [Function.update_of_ne h1]
  by_cases h0 : b = Proc.devRef .tc main_v42_0
  · subst h0; rw [Function.update_self]; rfl
  rw [Function.update_of_ne h0]
  refine afterRegion_keep _ _ winFacts1.arr_inj (fun w => R1.A_eq _ c w) b fun w hw => ?_
  fin_cases w <;> first | exact absurd hw (by decide) | exact h0 | exact h1 | exact h2 | exact h3 | exact h4

theorem after2 (c : Dev nD) : Pipeline.afterRegion (d2 m c) (V6 m (outs m) c) = V7 m (outs m) c := by
  have e : V7 m (outs m) c = Function.update (V6 m (outsB m) c) main_v43 (outs m 7 main_v43 c) := by rw [← V6_B]
  rw [e, V6_B]
  funext b
  by_cases h : b = Proc.devRef .tc main_v43
  · subst h; rw [Function.update_self]; rfl
  · rw [Function.update_of_ne h]
    refine afterRegion_keep _ _ winFacts2.arr_inj (fun w => R2.A_eq _ c w) b fun w hw => ?_
    fin_cases w <;> first | exact absurd hw (by decide) | exact h

/-! ## The regions' records -/

/-- The proof data of the three regions. -/
def pd : (p : Fin 3) → (c : Dev nD) → Dat τ (Elt F) Unit ℕ (UR sig nD τ) ℕ (cfgs p) c
  | ⟨0, _⟩ => d0 m
  | ⟨1, _⟩ => d1 m
  | ⟨2, _⟩ => d2 m

/-- Every TensorCore cell has one level. -/
def L : GSem nD τ sig → Finset Unit := fun g => if g.1.2 = .tc then {()} else ∅
/-- The level is zero. -/
abbrev lv : GSem nD τ sig → Unit → ℕ := fun _ _ => 0
/-- The core's generator register, at anything. -/
abbrev X (c : Dev nD) : sProp 𝕄 := iprop(∃ r, prngReg c r)
/-- What rides along beside the buffers. -/
abbrev E (_ : Fin 4) (c : Dev nD) : sProp 𝕄 := iprop((∃ Wd, owes (c : Thread nD τ) (0 : CellTallies nD τ sig Unit) Wd) ∗ X c ∗ BI.emp)

theorem cut (p : Fin 3) : Pipeline.LevelCut (pcfgs (F := F)) adm () L lv p (fun _ => (0 : CellTallies nD τ sig Unit)) (fun _ => 0) where
  hι c w s := by unfold L; rw [if_pos rfl]; exact Finset.mem_singleton_self _
  hιb _ _ _ := le_refl _
  hD c g i h := absurd h (lt_irrefl 0)

set_option backward.isDefEq.respectTransparency.types false in
/-- The first region's record. -/
def reg0 : RegionSeg (pcfgs (F := F)) adm (pd m) () defs₀ Variants.none L lv 0 :=
  RegionSeg.ofHeldIn (pcfgs (F := F)) adm (pd m) () defs₀ Variants.none L lv 0 (fun _ => 0) (Pipeline.ucRefs τ sig) X X launch0.toP rfl
    (fun c => (R0.body_obligation (rd (V1 m)) c).loose) (fun _ _ => rfl) (fun _ => rfl) (fun c w => (d0 m c).share_full (fun _ => rfl) w)
    (fun _ => .rfl) (fun _ => .rfl) (fun _ => 0) (cut 0) (fun _ => BI.emp) (V1 m)
    (fun c w => R0.A_eq (rd (V1 m)) c w)

set_option backward.isDefEq.respectTransparency.types false in
/-- The second region's record. -/
def reg1 : RegionSeg (pcfgs (F := F)) adm (pd m) () defs₀ Variants.none L lv 1 :=
  RegionSeg.ofHeldIn (pcfgs (F := F)) adm (pd m) () defs₀ Variants.none L lv 1 (fun _ => 0) (Pipeline.ucRefs τ sig) X X launch1.toP rfl
    (fun c => (R1.body_obligation (rd (V5 m (outsA m))) c).loose) (fun _ _ => rfl) (fun _ => rfl) (fun c w => (d1 m c).share_full (fun _ => rfl) w)
    (fun _ => .rfl) (fun _ => .rfl) (fun _ => 0) (cut 1) (fun _ => BI.emp) (V5 m (outsA m))
    (fun c w => R1.A_eq (rd (V5 m (outsA m))) c w)

set_option backward.isDefEq.respectTransparency.types false in
/-- The third region's record. -/
def reg2 : RegionSeg (pcfgs (F := F)) adm (pd m) () defs₀ Variants.none L lv 2 :=
  RegionSeg.ofHeldIn (pcfgs (F := F)) adm (pd m) () defs₀ Variants.none L lv 2 (fun _ => 0) (Pipeline.ucRefs τ sig) X X launch2.toP rfl
    (fun c => (R2.body_obligation (rd (V6 m (outsB m))) c).loose) (fun _ _ => rfl) (fun _ => rfl) (fun c w => (d2 m c).share_full (fun _ => rfl) w)
    (fun _ => .rfl) (fun _ => .rfl) (fun _ => 0) (cut 2) (fun _ => BI.emp) (V6 m (outsB m))
    (fun c w => R2.A_eq (rd (V6 m (outsB m))) c w)

/-! ## The run -/

section
variable (outs : Outs (F := F))
set_option backward.isDefEq.respectTransparency.types false in
/-- From the regions' records: @main ends with the result at the last valuation, the arguments as launched, and every semaphore at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c)) :
    θ_run defs (onTc (τ := τ) (main (F := F))) ⟨m, fun _ => 0, ρ⟩ (fun r => (∀ c : Dev nD,
      r.2.mem ((c.tc : Thread nD τ).loc main_v44) = V8 m outs c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, hpre1 c, (hpost1 c).trans (hpre2 c), hpost2 c, sep_mono .rfl (hE3 c)⟩)
    (hinit := ?_) (QY := fun c s => s.mem ((c.tc : Thread nD τ).loc main_v44) = V8 m outs c main_v44 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v44) (Finset.mem_filter.mpr ⟨StableHlo.devRef_mem_tcRefs main_v44, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c)⟩
    · iexact HSI
end

theorem subs (p : Fin 3) : Pipeline.arrRefs (pcfgs (F := F) p).spec ⊆ Pipeline.ucRefs τ sig := by
  fin_cases p
  · exact Pipeline.arrRefs_sub_ucRefs _ launch0.win.arr_unscoped
  · exact Pipeline.arrRefs_sub_ucRefs _ launch1.win.arr_unscoped
  · exact Pipeline.arrRefs_sub_ucRefs _ launch2.win.arr_unscoped

set_option backward.isDefEq.respectTransparency.types false in
theorem pre0 (c : Dev nD) : iprop(StableHlo.held (c : Thread nD τ) (Pipeline.ucRefs τ sig) (V1 m c) ∗ E 0 c) ⊢ (reg0 m).pre c := by
  skip
  unfold reg0
  exact RegionSeg.ofHeldIn_pre (pcs := pcfgs (F := F)) (a := adm) (pdats := pd m) (ι := ()) (defs₀ := defs₀) (𝒱₀ := Variants.none) (L := L) (lv := lv) (p := 0) (D := fun _ => 0) (S := Pipeline.ucRefs τ sig) (X := X) (Y := X) (b := fun _ => 0) (R := fun _ => BI.emp) (W := V1 m) (subs 0) c

set_option backward.isDefEq.respectTransparency.types false in
theorem post0 (c : Dev nD) : (reg0 m).post c ⊢ iprop(StableHlo.held (c : Thread nD τ) (Pipeline.ucRefs τ sig) (V2 m (outs m) c) ∗ E 1 c) := by
  rw [← after0]
  unfold reg0
  exact RegionSeg.ofHeldIn_post (subs 0) c

set_option backward.isDefEq.respectTransparency.types false in
theorem pre1 (c : Dev nD) : iprop(StableHlo.held (c : Thread nD τ) (Pipeline.ucRefs τ sig) (V5 m (outs m) c) ∗ E 1 c) ⊢ (reg1 m).pre c := by
  rw [V5_A]
  unfold reg1
  exact RegionSeg.ofHeldIn_pre (pcs := pcfgs (F := F)) (a := adm) (pdats := pd m) (ι := ()) (defs₀ := defs₀) (𝒱₀ := Variants.none) (L := L) (lv := lv) (p := 1) (D := fun _ => 0) (S := Pipeline.ucRefs τ sig) (X := X) (Y := X) (b := fun _ => 0) (R := fun _ => BI.emp) (W := V5 m (outsA m)) (subs 1) c

set_option backward.isDefEq.respectTransparency.types false in
theorem post1 (c : Dev nD) : (reg1 m).post c ⊢ iprop(StableHlo.held (c : Thread nD τ) (Pipeline.ucRefs τ sig) (V6 m (outs m) c) ∗ E 2 c) := by
  rw [← after1, V5_A]
  unfold reg1
  exact RegionSeg.ofHeldIn_post (subs 1) c

set_option backward.isDefEq.respectTransparency.types false in
theorem pre2 (c : Dev nD) : iprop(StableHlo.held (c : Thread nD τ) (Pipeline.ucRefs τ sig) (V6 m (outs m) c) ∗ E 2 c) ⊢ (reg2 m).pre c := by
  rw [V6_B]
  unfold reg2
  exact RegionSeg.ofHeldIn_pre (pcs := pcfgs (F := F)) (a := adm) (pdats := pd m) (ι := ()) (defs₀ := defs₀) (𝒱₀ := Variants.none) (L := L) (lv := lv) (p := 2) (D := fun _ => 0) (S := Pipeline.ucRefs τ sig) (X := X) (Y := X) (b := fun _ => 0) (R := fun _ => BI.emp) (W := V6 m (outsB m)) (subs 2) c

set_option backward.isDefEq.respectTransparency.types false in
theorem post2 (c : Dev nD) : (reg2 m).post c ⊢ iprop(StableHlo.held (c : Thread nD τ) (Pipeline.ucRefs τ sig) (V7 m (outs m) c) ∗ E 3 c) := by
  rw [← after2, V6_B]
  unfold reg2
  exact RegionSeg.ofHeldIn_post (subs 2) c

set_option backward.isDefEq.respectTransparency.types false in
/-- Every execution of @main ends with the result array at the composed valuation, the arguments unchanged and every semaphore at zero. -/
theorem run : θ_run defs (onTc (τ := τ) (main (F := F))) ⟨m, fun _ => 0, ρ⟩ (fun r => (∀ c : Dev nD,
      r.2.mem ((c.tc : Thread nD τ).loc main_v44) = V8 m (outs m) c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  run_cond m (emb₁) () Variants.none L lv (fun g hg => by unfold L; rw [if_neg hg]) ρ (outs m) (pd m) (fun _ => 0) (fun _ => BI.emp)
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (E (F := F))
    (by
      refine Pipeline.initEach L lv fun c => ?_
      iintro ⟨⟨-, HO, -, Hp, -⟩, -⟩
      imodintro
      isplitl [HO]; · iexists ∅; iexact HO
      isplitl [Hp]; · iexists _; iexact Hp
      iempintro)
    (fun c => by
      iintro ⟨HO, -, -⟩
      iexact HO)
    (reg0 m) (pre0 m) (post0 m) (reg1 m) (pre1 m) (post1 m) (reg2 m) (pre2 m) (post2 m)

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ)

end Cert.KernelIdeal.Run

end
-- ==== Proof.Frames.lean ====
module

public import proofs.«01_k».proof.Proof.Run
public import proofs.«01_k».proof.Proof.KRun
public import proofs.«01_k».proof.Proof.Gen.ReferenceIdeal
public import proofs.«01_k».proof.Proof.Gen.ReferenceIdeal.Run
public import Idealize.ShloMosaic.Lib.Quiescent
public import Idealize.ShloMosaic.Init

@[expose] public section

noncomputable section

namespace Cert.Frames

open Idealize.ShloMosaic Idealize.SL.Sem

/-- The reference runs, leaves its arguments as they were, and has no semaphore counter to raise. -/
theorem reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

end Cert.Frames

end
-- ==== Proof.Math.lean ====
/-
  Facts about the extended reals that mention no program: the values of the constants, the order in which two of 64
  scores are chosen, and the softmax-weighted sum in the form both programs reduce to.
-/
module

public import Idealize.ShloMosaic.Lib.Pointwise
public import Idealize.ShloMosaic.Lib.SortFacts
public import Idealize.ShloMosaic.Lib.IdealHost

@[expose] public section

set_option maxRecDepth 16384

noncomputable section

namespace Cert.Math

open Idealize.ShloMosaic

/-! ## Constants -/

/-- The pattern of 1e30. -/
theorem c_big : Ideal.ofBits .f32 1900671690#32 = ((13234890 * 2 ^ 76 : ℝ) : EReal) := by
  simp [Ideal.ofBits, Ideal.ieee, -EReal.coe_mul]

/-- The pattern of minus infinity. -/
theorem c_bot : Ideal.ofBits .f32 4286578688#32 = ⊥ := by
  simp [Ideal.ofBits, Ideal.ieee]

/-- The pattern of minus one. -/
theorem c_negone : Ideal.ofBits .f32 3212836864#32 = ((-1 : ℝ) : EReal) := by
  simp [Ideal.ofBits, Ideal.ieee, -EReal.coe_mul, -EReal.coe_neg]; norm_num

/-- The pattern of the float nearest 0.001. -/
theorem c_milli : Ideal.ofBits .f32 981668463#32 = ((8589935 / 2 ^ 33 : ℝ) : EReal) := by
  simp [Ideal.ofBits, Ideal.ieee, -EReal.coe_mul]; norm_num

/-- The pattern of -1e31. -/
theorem c_low : Ideal.ofBits .f32 0xF2FC6F7C#32 = ((-(16543612 * 2 ^ 79) : ℝ) : EReal) := by
  simp [Ideal.ofBits, Ideal.ieee, -EReal.coe_mul, -EReal.coe_neg]

/-- The f32 pattern of one eighth. -/
theorem c_eighth : Ideal.ofBits .f32 1040187392#32 = ((1 / 8 : ℝ) : EReal) := by
  simp [Ideal.ofBits, Ideal.ieee, -EReal.coe_mul]; norm_num

/-- The bf16 pattern of one eighth. -/
theorem c_eighth_bf16 : Ideal.ofBits .bf16 15872#16 = ((1 / 8 : ℝ) : EReal) := by
  simp [Ideal.ofBits, Ideal.ieee, -EReal.coe_mul]; norm_num

/-- The pattern of 32. -/
theorem c_32 : Ideal.ofBits .f32 1107296256#32 = ((32 : ℝ) : EReal) := by
  simp [Ideal.ofBits, Ideal.ieee, -EReal.coe_mul]; norm_num

/-- The pattern of 1/32. -/
theorem c_32nd : Ideal.ofBits .f32 0x3D000000#32 = ((1 / 32 : ℝ) : EReal) := by
  simp [Ideal.ofBits, Ideal.ieee, -EReal.coe_mul]; norm_num

/-- The pattern of 100000. -/
theorem c_1e5 : Ideal.ofBits .f32 0x47C35000#32 = ((100000 : ℝ) : EReal) := by
  simp [Ideal.ofBits, Ideal.ieee, -EReal.coe_mul]; norm_num

/-- The pattern of 10000. -/
theorem c_1e4 : Ideal.ofBits .f32 1176256512#32 = ((10000 : ℝ) : EReal) := by
  simp [Ideal.ofBits, Ideal.ieee, -EReal.coe_mul]; norm_num

/-- The pattern of 64. -/
theorem c_64 : Ideal.ofBits .f32 1115684864#32 = ((64 : ℝ) : EReal) := by
  simp [Ideal.ofBits, Ideal.ieee, -EReal.coe_mul]; norm_num

/-- The pattern of 2. -/
theorem c_2 : Ideal.ofBits .f32 1073741824#32 = ((2 : ℝ) : EReal) := by
  simp [Ideal.ofBits, Ideal.ieee, -EReal.coe_mul]; norm_num

/-- A word below 2^31 read signed is the number it was made of. -/
theorem toInt_small (n : ℕ) (h : n < 2 ^ 31) : (BitVec.ofNat 32 n).toInt = n := by
  have h1 : (BitVec.ofNat 32 n).toNat = n := by
    rw [BitVec.toNat_ofNat]; exact Nat.mod_eq_of_lt (by omega)
  rw [BitVec.toInt_eq_toNat_of_lt (by rw [h1]; omega), h1]

/-! ## Choosing the two best of 64 scores -/

/-- Position `a` is taken before position `b`: its score is greater, or equal and its position lower. -/
def Better {n : ℕ} (r : Fin n → EReal) (a b : Fin n) : Prop := r b < r a ∨ (r a = r b ∧ a < b)

/-- Position `i` is the best, and `j` the best of the rest. -/
structure IsTop2 (r : Fin 64 → EReal) (i j : Fin 64) : Prop where
  ne : j ≠ i
  first : ∀ b, b ≠ i → Better r i b
  second : ∀ b, b ≠ i → b ≠ j → Better r j b

/-- Inserting a position lower than all those of a list in order keeps the list in order. -/
theorem pairwise_insert {n : ℕ} (r : Fin n → EReal) (a : Fin n) : ∀ l : List (Fin n), l.Pairwise (Better r) →
    (∀ x ∈ l, a < x) → (insertBefore (fun i j => decide (r j < r i)) a l).Pairwise (Better r)
  | [], _, _ => by unfold insertBefore; exact List.pairwise_singleton _ _
  | b :: l, hl, ha => by
    unfold insertBefore
    obtain ⟨hb, hl'⟩ := List.pairwise_cons.mp hl
    split
    · rename_i h
      have hlt : r a < r b := of_decide_eq_true h
      refine List.pairwise_cons.mpr ⟨fun x hx => ?_, pairwise_insert r a l hl' fun x hx => ha x (List.mem_cons_of_mem _ hx)⟩
      rcases List.mem_cons.mp ((perm_insertBefore _ a l).mem_iff.mp hx) with rfl | hx
      · exact Or.inl hlt
      · exact hb x hx
    · rename_i h
      have hle : r b ≤ r a := not_lt.mp fun hlt => h (decide_eq_true hlt)
      refine List.pairwise_cons.mpr ⟨fun x hx => ?_, hl⟩
      have hax := ha x hx
      have hxa : r x ≤ r a := by
        rcases List.mem_cons.mp hx with rfl | hx
        · exact hle
        · rcases hb x hx with h | ⟨h, _⟩
          · exact (le_of_lt h).trans hle
          · exact h ▸ hle
      rcases lt_or_eq_of_le hxa with h | h
      · exact Or.inl h
      · exact Or.inr ⟨h.symm, hax⟩

/-- A stable sort of increasing positions, greater score first, lists them in the order of `Better`. -/
theorem pairwise_stableSort {n : ℕ} (r : Fin n → EReal) : ∀ l : List (Fin n), l.Pairwise (· < ·) →
    (stableSort (fun i j => decide (r j < r i)) l).Pairwise (Better r)
  | [], _ => by unfold stableSort; exact List.Pairwise.nil
  | a :: l, h => by
    obtain ⟨ha, hl⟩ := List.pairwise_cons.mp h
    unfold stableSort
    exact pairwise_insert r a _ (pairwise_stableSort r l hl) fun x hx => ha x ((perm_stableSort _ l).mem_iff.mp hx)

/-- In that sort the position at an earlier place is better than the one at a later place. -/
theorem better_sortedFrom {n : ℕ} (r : Fin n → EReal) (k k' : Fin n) (h : k < k') :
    Better r (sortedFrom (fun i j => decide (r j < r i)) k) (sortedFrom (fun i j => decide (r j < r i)) k') := by
  have hp : (sortPositions n fun i j => decide (r j < r i)).Pairwise (Better r) :=
    pairwise_stableSort r _ (List.pairwise_lt_finRange n)
  exact List.pairwise_iff_get.mp hp _ _ h

/-- The first two places of the stable sort, greater score first, hold the two best positions. -/
theorem top2_sortedFrom (r : Fin 64 → EReal) :
    IsTop2 r (sortedFrom (fun i j => decide (r j < r i)) 0) (sortedFrom (fun i j => decide (r j < r i)) 1) where
  ne := fun h => absurd (sortedFrom_injective _ h) (by decide)
  first := fun b hb => by
    obtain ⟨k, rfl⟩ := sortedFrom_surjective (fun i j => decide (r j < r i)) b
    exact better_sortedFrom r 0 k (Fin.pos_of_ne_zero fun h => hb (by rw [h]))
  second := fun b hb hb' => by
    obtain ⟨k, rfl⟩ := sortedFrom_surjective (fun i j => decide (r j < r i)) b
    refine better_sortedFrom r 1 k ?_
    have h0 : k ≠ 0 := fun h => hb (by rw [h])
    have h1 : k ≠ 1 := fun h => hb' (by rw [h])
    have h0' : k.val ≠ 0 := fun h => h0 (Fin.ext h)
    have h1' : k.val ≠ 1 := fun h => h1 (Fin.ext h)
    show (1 : ℕ) < k.val
    omega

/-- The first position that attains the maximum, found as the least of the positions that attain it, is the best position. -/
theorem sel_eq (a : Fin 64 → EReal) (i : Fin 64) (h : ∀ b, b ≠ i → Better a i b) :
    Finset.fold IntOp.minsi (2147483647#32) (fun x : Fin 64 =>
      if a x = Finset.fold max (Ideal.ofBits .f32 4286578688#32) (fun x => a x) Finset.univ then BitVec.ofNat 32 ↑x else 64#32)
      Finset.univ = BitVec.ofNat 32 ↑i := by
  have hmax : Finset.fold max (Ideal.ofBits .f32 4286578688#32) (fun x => a x) Finset.univ = a i := by
    rw [c_bot]
    apply le_antisymm
    · refine Finset.fold_max_le _ |>.mpr ⟨bot_le, fun x _ => ?_⟩
      by_cases hx : x = i
      · rw [hx]
      · rcases h x hx with h | ⟨h, _⟩
        · exact le_of_lt h
        · exact le_of_eq h.symm
    · exact Finset.le_fold_max _ |>.mpr (Or.inr ⟨i, Finset.mem_univ _, le_refl _⟩)
  rw [hmax]
  apply BitVec.eq_of_toInt_eq
  have hom : ∀ x y : BitVec 32, (IntOp.minsi x y).toInt = min x.toInt y.toInt := fun x y => by
    unfold IntOp.minsi
    split
    · rename_i h; rw [min_eq_left (le_of_lt (BitVec.slt_iff_toInt_lt.mp h))]
    · rename_i h; rw [min_eq_right (not_lt.mp fun h' => h (BitVec.slt_iff_toInt_lt.mpr h'))]
  rw [← Finset.fold_hom hom]
  have small : ∀ x : Fin 64, (BitVec.ofNat 32 ↑x).toInt = x := fun x => toInt_small _ (by omega)
  rw [small i]
  apply le_antisymm
  · refine (Finset.fold_min_le _).mpr (Or.inr ⟨i, Finset.mem_univ _, ?_⟩)
    rw [if_pos rfl, small i]
  · refine (Finset.le_fold_min _).mpr ⟨?_, fun x _ => ?_⟩
    · have : (2147483647#32 : BitVec 32).toInt = 2147483647 := by decide
      omega
    · split
      · rename_i hx
        rw [small x]
        by_cases hxi : x = i
        · rw [hxi]
        · rcases h x hxi with h | ⟨_, h⟩
          · exact absurd hx (ne_of_lt h)
          · have : i.val < x.val := h
            omega
      · have : (64#32 : BitVec 32).toInt = 64 := by decide
        omega

/-- The score the kernel gives a masked chunk `g`: below every unmasked score, and lower for later chunks. -/
def sent (g : ℕ) : ℝ := 13234890 * 2 ^ 76 * (-1 - 8589935 / 2 ^ 33 * g)

/-- The kernel's masked score is `sent`. -/
theorem sent_eq (g : Fin 64) :
    Ideal.ofBits .f32 1900671690#32 * (Ideal.ofBits .f32 3212836864#32 -
      Ideal.ofBits .f32 981668463#32 * FloatOps.sitofp (F := Ideal) .f32 (BitVec.ofNat 32 ↑g)) = ((sent g : ℝ) : EReal) := by
  rw [c_big, c_negone, c_milli]
  show ((13234890 * 2 ^ 76 : ℝ) : EReal) * (((-1 : ℝ) : EReal) - ((8589935 / 2 ^ 33 : ℝ) : EReal) * (((BitVec.ofNat 32 ↑g).toInt : ℝ) : EReal)) = _
  rw [toInt_small _ (by omega), ← EReal.coe_mul, ← EReal.coe_sub, ← EReal.coe_mul]
  unfold sent
  norm_cast

theorem sent_lt (g : Fin 64) (a b : ℕ) (h : a < b) : sent b < sent a := by
  unfold sent
  have : (a : ℝ) < b := by exact_mod_cast h
  nlinarith

theorem sent_le (g : ℕ) : sent g ≤ -(2 * 10 ^ 28) := by
  unfold sent
  have : (0 : ℝ) ≤ g := Nat.cast_nonneg g
  nlinarith

theorem low_lt_sent (g : Fin 64) : -(16543612 * 2 ^ 79) < sent g := by
  unfold sent
  have : ((g : ℕ) : ℝ) ≤ 63 := by exact_mod_cast (by omega : (g : ℕ) ≤ 63)
  nlinarith

/-- Replacing minus infinity by the kernel's masked score keeps the order in which chunks are taken. -/
theorem better_sent (sf r : Fin 64 → EReal) (P : Fin 64 → Prop) [DecidablePred P] (t : Fin 64 → ℝ)
    (ht : ∀ g, |t g| < 2 * 10 ^ 28) (hr : ∀ g, r g = if P g then ((t g : ℝ) : EReal) else ⊥)
    (hsf : ∀ g, sf g = if P g then ((t g : ℝ) : EReal) else ((sent g : ℝ) : EReal)) (a b : Fin 64) (h : Better r a b) :
    Better sf a b := by
  unfold Better at h ⊢
  rw [hr, hr] at h
  rw [hsf, hsf]
  by_cases pa : P a <;> by_cases pb : P b <;> simp only [pa, pb, if_true, if_false] at h ⊢
  · exact h
  · left
    have := sent_le b
    have := (abs_lt.mp (ht a)).1
    exact_mod_cast (by linarith : sent b < t a)
  · rcases h with h | ⟨h, _⟩
    · exact absurd h (not_lt_bot)
    · exact absurd h.symm (EReal.coe_ne_bot _)
  · rcases h with h | ⟨_, h⟩
    · exact absurd h (lt_irrefl _)
    · left
      exact_mod_cast sent_lt a a b h

/-- The kernel's second choice: after the first chosen chunk is overwritten by a score below all others, the second is the best. -/
theorem better_second (sf sf2 : Fin 64 → EReal) (i j : Fin 64) (h : IsTop2 sf i j) (hlow : ∀ g, ((-(16543612 * 2 ^ 79) : ℝ) : EReal) < sf g)
    (h2 : ∀ g, sf2 g = if g = i then ((-(16543612 * 2 ^ 79) : ℝ) : EReal) else sf g) (b : Fin 64) (hb : b ≠ j) : Better sf2 j b := by
  unfold Better
  rw [h2, h2, if_neg h.ne]
  by_cases hbi : b = i
  · rw [if_pos hbi]; exact Or.inl (hlow j)
  · rw [if_neg hbi]; exact h.second b hbi hb

/-! ## Softmax-weighted sums -/

/-- The sum of `v` over `S` weighted by the softmax of the real scores `s` over `S`. -/
def soft {ι : Type} (S : Finset ι) (s : ι → ℝ) (v : ι → EReal) : EReal :=
  ∑ i ∈ S, ((Real.exp (s i) / ∑ j ∈ S, Real.exp (s j) : ℝ) : EReal) * v i

theorem coe_sum {ι : Type} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top _) _ _

section Soft

variable {ι : Type} [Fintype ι] (S : Finset ι) (s : ι → ℝ) (c : ℝ) (a v : ι → EReal)

theorem sum_exp (hin : ∀ i ∈ S, a i = ((s i - c : ℝ) : EReal)) (hout : ∀ i, i ∉ S → a i = ⊥) :
    ∑ i, Ideal.exp (a i) = ((∑ i ∈ S, Real.exp (s i - c) : ℝ) : EReal) := by
  rw [coe_sum, ← Finset.sum_subset (Finset.subset_univ S) fun i _ hi => by rw [hout i hi, Ideal.exp_bot]]
  exact Finset.sum_congr rfl fun i hi => by rw [hin i hi, Ideal.exp_coe]

theorem sum_pos (hS : S.Nonempty) : 0 < ∑ i ∈ S, Real.exp (s i - c) :=
  Finset.sum_pos (fun _ _ => Real.exp_pos _) hS

theorem weight_eq (i : ι) (hS : S.Nonempty) :
    Real.exp (s i - c) * (1 / ∑ j ∈ S, Real.exp (s j - c)) = Real.exp (s i) / ∑ j ∈ S, Real.exp (s j) := by
  have h1 : ∑ j ∈ S, Real.exp (s j - c) = (∑ j ∈ S, Real.exp (s j)) / Real.exp c := by
    rw [Finset.sum_div]; exact Finset.sum_congr rfl fun j _ => Real.exp_sub _ _
  have h2 : (0 : ℝ) < ∑ j ∈ S, Real.exp (s j) := Finset.sum_pos (fun _ _ => Real.exp_pos _) hS
  rw [h1, Real.exp_sub]
  have := Real.exp_pos c
  field_simp

/-- Weighting by the exponentials and dividing the sum once. -/
theorem soft_kernel (hS : S.Nonempty) (hin : ∀ i ∈ S, a i = ((s i - c : ℝ) : EReal)) (hout : ∀ i, i ∉ S → a i = ⊥) :
    Ideal.div (∑ i, Ideal.exp (a i) * v i) (∑ i, Ideal.exp (a i)) = soft S s v := by
  rw [sum_exp S s c a hin hout, Ideal.div_coe (sum_pos S s c hS).ne',
    ← Finset.sum_subset (Finset.subset_univ S) fun i _ hi => by rw [hout i hi, Ideal.exp_bot, zero_mul],
    sum_mul_coe _ _ _ (one_div_nonneg.mpr (sum_pos S s c hS).le)]
  refine Finset.sum_congr rfl fun i hi => ?_
  rw [hin i hi, Ideal.exp_coe, mul_right_comm, ← EReal.coe_mul, weight_eq S s c i hS]

/-- Dividing every exponential by their sum and then weighting. -/
theorem soft_ref (hS : S.Nonempty) (hin : ∀ i ∈ S, a i = ((s i - c : ℝ) : EReal)) (hout : ∀ i, i ∉ S → a i = ⊥) :
    ∑ i, Ideal.div (Ideal.exp (a i)) (∑ j, Ideal.exp (a j)) * v i = soft S s v := by
  rw [sum_exp S s c a hin hout,
    ← Finset.sum_subset (Finset.subset_univ S) fun i _ hi => by
      rw [hout i hi, Ideal.exp_bot, Ideal.div_coe (sum_pos S s c hS).ne', zero_mul, zero_mul]]
  refine Finset.sum_congr rfl fun i hi => ?_
  rw [hin i hi, Ideal.exp_coe, Ideal.div_coe (sum_pos S s c hS).ne', ← EReal.coe_mul, weight_eq S s c i hS]

end Soft

/-- A softmax-weighted sum over positions named through an injective map. -/
theorem soft_image {ι κ : Type} [DecidableEq ι] (T : Finset κ) (f : κ → ι) (hf : Set.InjOn f T) (s : ι → ℝ) (v : ι → EReal) :
    soft T (fun k => s (f k)) (fun k => v (f k)) = soft (T.image f) s v := by
  unfold soft
  rw [Finset.sum_image hf, Finset.sum_image hf]

/-- The maximum of finitely many extended reals, none infinite above and one of them not minus infinity, is a real number. -/
theorem exists_max {ι : Type} [Fintype ι] (a : ι → EReal) (i : ι) (hi : a i ≠ ⊥) (ht : ∀ i, a i ≠ ⊤) :
    ∃ c : ℝ, Finset.univ.fold max (Ideal.ofBits .f32 4286578688#32) (fun x => a x) = (c : EReal) := by
  have h1 : Finset.univ.fold max (Ideal.ofBits .f32 4286578688#32) (fun x => a x) ≠ ⊥ := fun h => by
    have : a i ≤ Finset.univ.fold max (Ideal.ofBits .f32 4286578688#32) (fun x => a x) :=
      (Finset.le_fold_max _).mpr (Or.inr ⟨i, Finset.mem_univ _, le_refl _⟩)
    rw [h] at this
    exact hi (le_bot_iff.mp this)
  have h2 : Finset.univ.fold max (Ideal.ofBits .f32 4286578688#32) (fun x => a x) ≠ ⊤ := by
    refine ne_of_lt ((Finset.fold_max_lt _).mpr ⟨?_, fun x _ => lt_top_iff_ne_top.mpr (ht x)⟩)
    rw [c_bot]; exact bot_lt_top
  exact ⟨_, (EReal.coe_toReal h2 h1).symm⟩

/-- The logistic function of a difference is the first weight of a softmax of two reals. -/
theorem logistic_eq (x y c : ℝ) : Ideal.logistic ((x : EReal) - (y : EReal)) =
    Ideal.div (Ideal.exp ((x : EReal) - (c : EReal))) (Ideal.exp ((x : EReal) - (c : EReal)) + Ideal.exp ((y : EReal) - (c : EReal))) := by
  simp only [← EReal.coe_sub, Ideal.logistic_coe, Ideal.exp_coe, ← EReal.coe_add]
  rw [Ideal.div_coe (by positivity), ← EReal.coe_mul]
  congr 1
  rw [Real.exp_sub x c, Real.exp_sub y c, neg_sub, Real.exp_sub y x]
  have := Real.exp_pos c
  have := Real.exp_pos x
  have := Real.exp_pos y
  field_simp

/-! ## Bounds -/

/-- The extended real `x` is a real number of magnitude at most `B`. -/
def Bd (B : ℝ) (x : EReal) : Prop := ∃ r : ℝ, x = (r : EReal) ∧ |r| ≤ B

theorem Bd.mul {B C : ℝ} {x y : EReal} (hB : 0 ≤ B) (hx : Bd B x) (hy : Bd C y) : Bd (B * C) (x * y) := by
  obtain ⟨r, rfl, hr⟩ := hx
  obtain ⟨t, rfl, ht⟩ := hy
  exact ⟨r * t, (EReal.coe_mul r t).symm, by rw [abs_mul]; exact mul_le_mul hr ht (abs_nonneg t) hB⟩

theorem Bd.add {B C : ℝ} {x y : EReal} (hx : Bd B x) (hy : Bd C y) : Bd (B + C) (x + y) := by
  obtain ⟨r, rfl, hr⟩ := hx
  obtain ⟨t, rfl, ht⟩ := hy
  exact ⟨r + t, (EReal.coe_add r t).symm, (abs_add_le r t).trans (add_le_add hr ht)⟩

theorem Bd.sub {B C : ℝ} {x y : EReal} (hx : Bd B x) (hy : Bd C y) : Bd (B + C) (x - y) := by
  obtain ⟨r, rfl, hr⟩ := hx
  obtain ⟨t, rfl, ht⟩ := hy
  exact ⟨r - t, (EReal.coe_sub r t).symm, (abs_sub r t).trans (add_le_add hr ht)⟩

theorem Bd.mono {B C : ℝ} {x : EReal} (h : B ≤ C) (hx : Bd B x) : Bd C x := by
  obtain ⟨r, rfl, hr⟩ := hx
  exact ⟨r, rfl, hr.trans h⟩

theorem Bd.sum {n : ℕ} {B : ℝ} (f : Fin n → EReal) (h : ∀ i, Bd B (f i)) : Bd (n * B) (∑ i, f i) := by
  choose r hr hb using h
  refine ⟨∑ i, r i, ?_, ?_⟩
  · rw [coe_sum]; exact Finset.sum_congr rfl fun i _ => hr i
  · refine (Finset.abs_sum_le_sum_abs _ _).trans ((Finset.sum_le_sum fun i _ => hb i).trans ?_)
    rw [Finset.sum_const, Finset.card_univ, Fintype.card_fin, nsmul_eq_mul]

theorem Bd.ne_top {B : ℝ} {x : EReal} (h : Bd B x) : x ≠ ⊤ := by obtain ⟨r, rfl, _⟩ := h; exact EReal.coe_ne_top r
theorem Bd.ne_bot {B : ℝ} {x : EReal} (h : Bd B x) : x ≠ ⊥ := by obtain ⟨r, rfl, _⟩ := h; exact EReal.coe_ne_bot r

theorem bd_cos (r : ℝ) : Bd 1 (Ideal.cos (r : EReal)) := ⟨Real.cos r, Ideal.cos_coe r, Real.abs_cos_le_one r⟩
theorem bd_sin (r : ℝ) : Bd 1 (Ideal.sin (r : EReal)) := ⟨Real.sin r, Ideal.sin_coe r, Real.abs_sin_le_one r⟩

/-- Averages of 32 reals: dividing the sum by 32, or weighting each by 1/32. -/
theorem mean_eq (f : Fin 32 → ℝ) : Ideal.div (∑ r, ((f r : ℝ) : EReal)) (Ideal.ofBits .f32 1107296256#32)
    = ((∑ r, 1 / 32 * f r : ℝ) : EReal) := by
  rw [c_32, Ideal.div_coe (by norm_num), ← coe_sum, ← EReal.coe_mul, mul_comm, Finset.mul_sum]

end Cert.Math

end
-- ==== Proof.Spec.lean ====
/-
  The values both programs compute, as functions of the six argument arrays: the projections and their rotation, the
  chunk scores and the two chunks chosen, the attention scores, and the gated sum of the two attentions.
-/
module

public import proofs.«01_k».proof.Proof.Math

@[expose] public section

set_option maxRecDepth 16384

noncomputable section

namespace Cert.Spec

open Idealize.ShloMosaic Cert.Math

/-- The six argument arrays, by coordinates. -/
structure Args where
  x : Fin 2048 → Fin 768 → EReal
  Wq : Fin 768 → Fin 768 → EReal
  Wk : Fin 768 → Fin 768 → EReal
  Wv : Fin 768 → Fin 768 → EReal
  Wg : Fin 768 → Fin 24 → EReal
  Wo : Fin 768 → Fin 768 → EReal

/-- Column `d` of head `h`. -/
def col (h : Fin 12) (d : Fin 64) : Fin 768 := ⟨h.val * 64 + d.val, by omega⟩
/-- Gate column `j` of head `h`. -/
def gcol (h : Fin 12) (j : Fin 2) : Fin 24 := ⟨h.val * 2 + j.val, by omega⟩
/-- Position `r` of chunk `g`. -/
def pos (g : Fin 64) (r : Fin 32) : Fin 2048 := ⟨g.val * 32 + r.val, by omega⟩
/-- The chunk of position `n`. -/
def chunk (n : Fin 2048) : Fin 64 := ⟨n.val / 32, by omega⟩

/-- The product of `x` and `W`. -/
def lin {m : ℕ} (x : Fin 2048 → Fin 768 → EReal) (W : Fin 768 → Fin m → EReal) (n : Fin 2048) (c : Fin m) : EReal :=
  ∑ e, x n e * W e c

/-- The rotation angle of position `n` and frequency `j`. -/
def ang (n j : ℕ) : EReal :=
  FloatOps.sitofp (F := Ideal) .f32 (BitVec.ofNat 32 n) *
    Ideal.div 1 (Ideal.pow (Ideal.ofBits .f32 1176256512#32)
      (Ideal.div (Ideal.ofBits .f32 1073741824#32 * FloatOps.sitofp (F := Ideal) .f32 (BitVec.ofNat 32 j))
        (Ideal.ofBits .f32 1115684864#32)))

/-- The row `t` rotated in pairs by the angles of position `n`. -/
def rope (t : Fin 64 → EReal) (n : ℕ) (d : Fin 64) : EReal :=
  if d.val % 2 < 1 then
    t ⟨2 * (d.val / 2), by omega⟩ * Ideal.cos (ang n (d.val / 2)) - t ⟨1 + 2 * (d.val / 2), by omega⟩ * Ideal.sin (ang n (d.val / 2))
  else
    t ⟨2 * (d.val / 2), by omega⟩ * Ideal.sin (ang n (d.val / 2)) + t ⟨1 + 2 * (d.val / 2), by omega⟩ * Ideal.cos (ang n (d.val / 2))

namespace Args

variable (A : Args)

/-- Rotated queries, by head, position and column. -/
def q (h : Fin 12) (n : Fin 2048) (d : Fin 64) : EReal := rope (fun d => lin A.x A.Wq n (col h d)) n d
/-- Rotated keys. -/
def k (h : Fin 12) (n : Fin 2048) (d : Fin 64) : EReal := rope (fun d => lin A.x A.Wk n (col h d)) n d
/-- Values. -/
def v (h : Fin 12) (n : Fin 2048) (d : Fin 64) : EReal := lin A.x A.Wv n (col h d)
/-- Gate scores. -/
def g (h : Fin 12) (n : Fin 2048) (j : Fin 2) : EReal := lin A.x A.Wg n (gcol h j)
/-- The mean key of a chunk. -/
def kc (h : Fin 12) (g : Fin 64) (d : Fin 64) : EReal :=
  Ideal.div (∑ r, A.k h (pos g r) d) (Ideal.ofBits .f32 1107296256#32)
/-- The score of chunk `g` for position `n`. -/
def sc (h : Fin 12) (n : Fin 2048) (g : Fin 64) : EReal := ∑ d, A.q h n d * A.kc h g d
/-- The same, minus infinity for a chunk that has begun at `n`. -/
def msc (h : Fin 12) (n : Fin 2048) (g : Fin 64) : EReal := if n.val < 32 * g.val then A.sc h n g else ⊥
/-- The two chunks chosen for position `n`. -/
def sel (h : Fin 12) (n : Fin 2048) (kk : Fin 2) : Fin 64 :=
  sortedFrom (fun i j : Fin 64 => decide (A.msc h n j < A.msc h n i)) ⟨kk.val, by omega⟩
/-- The attention score of positions `n` and `m`. -/
def att (h : Fin 12) (n m : Fin 2048) : EReal := (∑ d, A.q h n d * A.k h m d) * Ideal.ofBits .f32 1040187392#32

end Args

/-- The maximum the reference's softmax subtracts. -/
def rowMax {m : ℕ} (a : Fin m → EReal) : EReal :=
  max (Ideal.ofBits .f32 4286578688#32) (Finset.fold max (Ideal.ofBits .f32 4286578688#32) (fun x => a x) Finset.univ)

/-- The softmax weight of position `j` of the row `a`, as the reference computes it. -/
def rowW {m : ℕ} (a : Fin m → EReal) (j : Fin m) : EReal :=
  Ideal.div (Ideal.exp (a j - rowMax a)) (∑ i, Ideal.exp (a i - rowMax a))

namespace Args

variable (A : Args)

/-- The scores of the 64 positions of the two chosen chunks. -/
def interRow (h : Fin 12) (n : Fin 2048) (j : Fin 64) : EReal :=
  A.att h n (pos (A.sel h n ⟨j.val / 32, by omega⟩) ⟨j.val % 32, by omega⟩)
/-- The scores of the 32 positions of the position's own chunk, minus infinity after it. -/
def intraRow (h : Fin 12) (n : Fin 2048) (j : Fin 32) : EReal :=
  if j.val ≤ n.val % 32 then A.att h n (pos (chunk n) j) else ⊥
/-- The reference's gated sum of the two attentions. -/
def o (h : Fin 12) (n : Fin 2048) (d : Fin 64) : EReal :=
  rowW (A.g h n) 0 * ∑ j, rowW (A.interRow h n) j * A.v h (pos (A.sel h n ⟨j.val / 32, by omega⟩) ⟨j.val % 32, by omega⟩) d
  + rowW (A.g h n) 1 * ∑ j, rowW (A.intraRow h n) j * A.v h (pos (chunk n) j) d
/-- The reference's result. -/
def out (n : Fin 2048) (e : Fin 768) : EReal :=
  ∑ c : Fin 768, A.o ⟨c.val / 64, by omega⟩ n ⟨c.val % 64, by omega⟩ * A.Wo c e

end Args

end Cert.Spec

end
-- ==== Proof.KSpec.lean ====
/-
  The third call's arithmetic, by coordinates: the selection of two chunks, the two attentions and the gated sum, as the
  kernel computes them from the arrays it is called on.
-/
module

public import proofs.«01_k».proof.Proof.Math

@[expose] public section

noncomputable section

namespace Cert.KSpec

open Idealize.ShloMosaic

/-- The arrays the third call reads, by coordinates. -/
structure Arrs where
  q : Fin 12 → Fin 2048 → Fin 64 → EReal
  k : Fin 12 → Fin 2048 → Fin 64 → EReal
  v : Fin 12 → Fin 2048 → Fin 64 → EReal
  kc : Fin 12 → Fin 64 → Fin 64 → EReal
  g : Fin 12 → Fin 2048 → Fin 2 → EReal
  wo : Fin 12 → Fin 64 → Fin 768 → EReal
  L : Fin 1024 → Fin 1024 → EReal
  E : Fin 64 → Fin 2048 → EReal

/-- The position of row `n` of block `i`. -/
def grow (i : Fin 2) (n : Fin 1024) : Fin 2048 := ⟨i.val * 1024 + n.val, by omega⟩

/-- The maximum of a row. -/
def mx {m : ℕ} (f : Fin m → EReal) : EReal := Finset.fold max (Ideal.ofBits .f32 4286578688#32) (fun x => f x) Finset.univ

/-- The word of the first position at which a row of 64 is greatest. -/
def pick (f : Fin 64 → EReal) : BitVec 32 :=
  Finset.fold IntOp.minsi (2147483647#32) (fun x : Fin 64 => if f x = mx f then BitVec.ofNat 32 ↑x else 64#32) Finset.univ

namespace Arrs

variable (A : Arrs)

/-- The score of a chunk, or a very low number for a chunk that has begun. -/
def ks (h : Fin 12) (n : Fin 2048) (g : Fin 64) : EReal :=
  if n.val < 32 * g.val then ∑ d, A.q h n d * A.kc h g d
  else Ideal.ofBits .f32 1900671690#32 * (Ideal.ofBits .f32 3212836864#32 -
    Ideal.ofBits .f32 981668463#32 * FloatOps.sitofp (F := Ideal) .f32 (BitVec.ofNat 32 ↑g))
/-- The first chosen chunk. -/
def w1 (h : Fin 12) (n : Fin 2048) : BitVec 32 := pick (A.ks h n)
/-- The scores without the first chosen chunk. -/
def ks2 (h : Fin 12) (n : Fin 2048) (g : Fin 64) : EReal :=
  if BitVec.ofNat 32 g.val = A.w1 h n then Ideal.ofBits .f32 0xF2FC6F7C#32 else A.ks h n g
/-- The second chosen chunk. -/
def w2 (h : Fin 12) (n : Fin 2048) : BitVec 32 := pick (A.ks2 h n)
/-- The scaled score of two positions. -/
def qk (h : Fin 12) (n m : Fin 2048) : EReal := ∑ d, A.q h n d * Ideal.ofBits .bf16 15872#16 * A.k h m d
/-- What is added to the scores of a chunk's positions. -/
def pen (h : Fin 12) (n : Fin 2048) (g : Fin 64) : EReal :=
  if BitVec.ofNat 32 g.val = A.w1 h n ∨ BitVec.ofNat 32 g.val = A.w2 h n then 0 - mx (A.qk h n) else ⊥
/-- The exponents over all the positions. -/
def ia (h : Fin 12) (n m : Fin 2048) : EReal := A.qk h n m + ∑ g, A.pen h n g * A.E g m
/-- The attention to the chosen chunks. -/
def inter (h : Fin 12) (n : Fin 2048) (d : Fin 64) : EReal :=
  Ideal.div (∑ m, Ideal.exp (A.ia h n m) * A.v h m d) (∑ m, Ideal.exp (A.ia h n m))
/-- The masked scores of a block's rows against each other. -/
def ls (i : Fin 2) (h : Fin 12) (n x : Fin 1024) : EReal := A.qk h (grow i n) (grow i x) + A.L n x
/-- The exponents of a row of the block. -/
def la (i : Fin 2) (h : Fin 12) (n x : Fin 1024) : EReal := A.ls i h n x - mx (A.ls i h n)
/-- The attention to the position's own chunk. -/
def intra (i : Fin 2) (h : Fin 12) (n : Fin 1024) (d : Fin 64) : EReal :=
  Ideal.div (∑ x, Ideal.exp (A.la i h n x) * A.v h (grow i x) d) (∑ x, Ideal.exp (A.la i h n x))
/-- One head's share of the result. -/
def term (i : Fin 2) (h : Fin 12) (n : Fin 1024) (e : Fin 768) : EReal :=
  ∑ d, (A.g h (grow i n) 0 * A.inter h (grow i n) d + A.g h (grow i n) 1 * A.intra i h n d) * A.wo h d e

end Arrs

end Cert.KSpec

end
-- ==== Proof.Core.lean ====
/-
  The kernel's arithmetic and the reference's give the same result, for arguments that are bounded.
-/
module

public import proofs.«01_k».proof.Proof.Spec
public import proofs.«01_k».proof.Proof.KSpec
public import Idealize.ShloMosaic.Lib.Pipeline.ValueKit

@[expose] public section

noncomputable section

namespace Cert.Core

open Idealize.ShloMosaic Cert.Spec Cert.KSpec Cert.Math

/-! ## The rotation -/

/-- A rotation angle is a real number. -/
theorem ang_real (n j : ℕ) : ∃ r : ℝ, ang n j = (r : EReal) := by
  unfold ang
  rw [c_1e4, c_2, c_64]
  show ∃ r : ℝ, (((BitVec.ofNat 32 n).toInt : ℝ) : EReal) * Ideal.div ((1 : ℝ) : EReal) (Ideal.pow ((10000 : ℝ) : EReal)
    (Ideal.div (((2 : ℝ) : EReal) * (((BitVec.ofNat 32 j).toInt : ℝ) : EReal)) ((64 : ℝ) : EReal))) = (r : EReal)
  have hp (y : ℝ) : Real.rpow 10000 y ≠ 0 := (Real.rpow_pos_of_pos (by norm_num) y).ne'
  rw [Ideal.div_coe (by norm_num : (64 : ℝ) ≠ 0), ← EReal.coe_mul, ← EReal.coe_mul, Ideal.pow_coe_coe,
    Ideal.div_coe (hp _), ← EReal.coe_mul, ← EReal.coe_mul]
  exact ⟨_, rfl⟩

theorem bd_rope {B : ℝ} (hB : 0 ≤ B) (t : Fin 64 → EReal) (ht : ∀ d, Bd B (t d)) (n : ℕ) (d : Fin 64) : Bd (2 * B) (rope t n d) := by
  obtain ⟨r, hr⟩ := ang_real n (d.val / 2)
  unfold rope
  rw [hr]
  have e : B * 1 + B * 1 = 2 * B := by ring
  split_ifs
  · rw [← e]; exact ((ht _).mul hB (bd_cos r)).sub ((ht _).mul hB (bd_sin r))
  · rw [← e]; exact ((ht _).mul hB (bd_sin r)).add ((ht _).mul hB (bd_cos r))

/-- The kernel's rotation, from the two interleaved tables, is the reference's. -/
theorem rope_eq (t : Fin 64 → EReal) (n : ℕ) (d : Fin 64) (C S : EReal) (hC : C = Ideal.cos (ang n (d.val / 2)))
    (hS : S = if d.val % 2 = 0 then - Ideal.sin (ang n (d.val / 2)) else Ideal.sin (ang n (d.val / 2))) :
    t d * C + (if d.val % 2 = 0 then t ⟨(d.val + 1) % 64, by omega⟩ else t ⟨(d.val + 63) % 64, by omega⟩) * S = rope t n d := by
  unfold rope
  subst hC hS
  by_cases h : d.val % 2 = 0
  · rw [if_pos h, if_pos h, if_pos (by omega), mul_neg, ← sub_eq_add_neg]
    have e1 : d = ⟨2 * (d.val / 2), by omega⟩ := by apply Fin.ext; dsimp only; omega
    have e2 : (⟨(d.val + 1) % 64, by omega⟩ : Fin 64) = ⟨1 + 2 * (d.val / 2), by omega⟩ := by apply Fin.ext; dsimp only; omega
    rw [e2, ← e1]
  · rw [if_neg h, if_neg h, if_neg (by omega), add_comm]
    have e1 : d = ⟨1 + 2 * (d.val / 2), by omega⟩ := by apply Fin.ext; dsimp only; omega
    have e2 : (⟨(d.val + 63) % 64, by omega⟩ : Fin 64) = ⟨2 * (d.val / 2), by omega⟩ := by apply Fin.ext; dsimp only; omega
    rw [e2, ← e1]

/-! ## Bounded arguments -/

/-- The arguments the scores are made of are at most 100000 in absolute value. -/
structure Bnd (A : Args) : Prop where
  x : ∀ n e, Bd 100000 (A.x n e)
  Wq : ∀ e c, Bd 100000 (A.Wq e c)
  Wk : ∀ e c, Bd 100000 (A.Wk e c)
  Wg : ∀ e c, Bd 100000 (A.Wg e c)

theorem bd_lin {m : ℕ} (x : Fin 2048 → Fin 768 → EReal) (W : Fin 768 → Fin m → EReal) (hx : ∀ n e, Bd 100000 (x n e))
    (hW : ∀ e c, Bd 100000 (W e c)) (n : Fin 2048) (c : Fin m) : Bd 7680000000000 (lin x W n c) := by
  unfold lin
  refine Bd.mono (by norm_num) (Bd.sum (B := 100000 * 100000) _ fun e => (hx n e).mul (by norm_num) (hW e c))

variable {A : Args} (hA : Bnd A)

include hA in
theorem bd_q (h : Fin 12) (n : Fin 2048) (d : Fin 64) : Bd 15360000000000 (A.q h n d) :=
  Bd.mono (by norm_num) (bd_rope (B := 7680000000000) (by norm_num) _ (fun d => bd_lin _ _ hA.x hA.Wq _ _) _ _)

include hA in
theorem bd_k (h : Fin 12) (n : Fin 2048) (d : Fin 64) : Bd 15360000000000 (A.k h n d) :=
  Bd.mono (by norm_num) (bd_rope (B := 7680000000000) (by norm_num) _ (fun d => bd_lin _ _ hA.x hA.Wk _ _) _ _)

include hA in
theorem bd_g (h : Fin 12) (n : Fin 2048) (j : Fin 2) : Bd 7680000000000 (A.g h n j) := bd_lin _ _ hA.x hA.Wg _ _

include hA in
theorem bd_kc (h : Fin 12) (g : Fin 64) (d : Fin 64) : Bd 15360000000000 (A.kc h g d) := by
  unfold Args.kc
  rw [c_32, Ideal.div_coe (by norm_num)]
  exact Bd.mono (by norm_num) ((Bd.sum (B := 15360000000000) _ fun r => bd_k hA h (pos g r) d).mul (C := 1 / 32) (by norm_num)
    ⟨1 / 32, rfl, by norm_num⟩)

include hA in
theorem bd_sc (h : Fin 12) (n : Fin 2048) (g : Fin 64) : ∃ t : ℝ, A.sc h n g = (t : EReal) ∧ |t| < 2 * 10 ^ 28 := by
  obtain ⟨r, e, hr⟩ := Bd.sum (B := 15360000000000 * 15360000000000) (fun d => A.q h n d * A.kc h g d)
    fun d => (bd_q hA h n d).mul (by norm_num) (bd_kc hA h g d)
  exact ⟨r, e, lt_of_le_of_lt hr (by norm_num)⟩

include hA in
theorem att_real (h : Fin 12) (n : Fin 2048) : ∃ a : Fin 2048 → ℝ, ∀ m, A.att h n m = (a m : EReal) := by
  have hb (m : Fin 2048) : ∃ r : ℝ, A.att h n m = (r : EReal) := by
    obtain ⟨r, e, _⟩ := (Bd.sum (B := 15360000000000 * 15360000000000) (fun d => A.q h n d * A.k h m d)
      fun d => (bd_q hA h n d).mul (by norm_num) (bd_k hA h m d)).mul (C := 1 / 8) (by norm_num) ⟨1 / 8, rfl, by norm_num⟩
    refine ⟨r, ?_⟩
    unfold Args.att
    rw [c_eighth]
    exact e
  choose a ha using hb
  exact ⟨a, ha⟩

/-! ## The maxima -/

theorem mx_real {m : ℕ} (a : Fin m → EReal) (i : Fin m) (hi : a i ≠ ⊥) (ht : ∀ i, a i ≠ ⊤) : ∃ c : ℝ, mx a = (c : EReal) :=
  exists_max a i hi ht

theorem rowMax_real {m : ℕ} (a : Fin m → EReal) (i : Fin m) (hi : a i ≠ ⊥) (ht : ∀ i, a i ≠ ⊤) : ∃ c : ℝ, rowMax a = (c : EReal) := by
  obtain ⟨c, hc⟩ := exists_max a i hi ht
  refine ⟨c, ?_⟩
  unfold rowMax
  rw [hc, c_bot]
  exact max_eq_right bot_le

/-! ## What the kernel's arrays hold -/

/-- The third call's arrays hold what they should. -/
structure Link (K : Arrs) (A : Args) : Prop where
  q : ∀ h n d, K.q h n d = A.q h n d
  k : ∀ h n d, K.k h n d = A.k h n d
  v : ∀ h n d, K.v h n d = A.v h n d
  kc : ∀ h g d, K.kc h g d = A.kc h g d
  g : ∀ h n (j : Fin 2), K.g h n j = Ideal.logistic (A.g h n j - A.g h n ⟨1 - j.val, by omega⟩)
  wo : ∀ h d e, K.wo h d e = A.Wo (col h d) e
  L : ∀ a b : Fin 1024, K.L a b = if b.val / 32 = a.val / 32 ∧ b.val ≤ a.val then 0 else ⊥
  E : ∀ (g : Fin 64) (m : Fin 2048), K.E g m = if m.val / 32 = g.val then 1 else 0

variable {K : Arrs} (hK : Link K A)

include hK in
theorem qk_eq (h : Fin 12) (n m : Fin 2048) : K.qk h n m = A.att h n m := by
  unfold Arrs.qk Args.att
  rw [c_eighth, c_eighth_bf16, sum_mul_coe _ _ _ (by norm_num)]
  refine Finset.sum_congr rfl fun d _ => ?_
  rw [hK.q, hK.k, mul_right_comm]

/-! ## The selection -/

theorem word_inj (a b : Fin 64) : BitVec.ofNat 32 a.val = BitVec.ofNat 32 b.val ↔ a = b := by
  constructor
  · intro h
    have := congrArg BitVec.toNat h
    simp only [BitVec.toNat_ofNat] at this
    apply Fin.ext
    omega
  · rintro rfl; rfl

include hA hK in
theorem picks (h : Fin 12) (n : Fin 2048) :
    K.w1 h n = BitVec.ofNat 32 (A.sel h n 0).val ∧ K.w2 h n = BitVec.ofNat 32 (A.sel h n 1).val ∧ A.sel h n 1 ≠ A.sel h n 0 := by
  have top : IsTop2 (A.msc h n) (A.sel h n 0) (A.sel h n 1) := top2_sortedFrom (A.msc h n)
  generalize A.sel h n 0 = i at top ⊢
  generalize A.sel h n 1 = j at top ⊢
  choose t ht hb using fun g => bd_sc hA h n g
  have hr (g : Fin 64) : A.msc h n g = if n.val < 32 * g.val then ((t g : ℝ) : EReal) else ⊥ := by
    unfold Args.msc; rw [ht]
  have hs (g : Fin 64) : K.ks h n g = if n.val < 32 * g.val then ((t g : ℝ) : EReal) else ((sent g.val : ℝ) : EReal) := by
    unfold Arrs.ks
    rw [sent_eq, ← ht]
    unfold Args.sc
    simp only [hK.q, hK.kc]
  have better (a b : Fin 64) (hab : Better (A.msc h n) a b) : Better (K.ks h n) a b :=
    better_sent (K.ks h n) (A.msc h n) (fun g => n.val < 32 * g.val) t hb hr hs a b hab
  have top' : IsTop2 (K.ks h n) i j := ⟨top.ne, fun b hb => better _ _ (top.first b hb), fun b hb hb' => better _ _ (top.second b hb hb')⟩
  have h1 : K.w1 h n = BitVec.ofNat 32 i.val := sel_eq (K.ks h n) i top'.first
  have h2 (g : Fin 64) : K.ks2 h n g = if g = i then ((-(16543612 * 2 ^ 79) : ℝ) : EReal) else K.ks h n g := by
    unfold Arrs.ks2
    rw [h1, c_low]
    simp only [word_inj]
  have low (g : Fin 64) : ((-(16543612 * 2 ^ 79) : ℝ) : EReal) < K.ks h n g := by
    rw [hs]
    split_ifs
    · refine EReal.coe_lt_coe_iff.mpr ?_
      have := (abs_lt.mp (hb g)).1
      refine lt_trans ?_ this
      norm_num
    · exact EReal.coe_lt_coe_iff.mpr (low_lt_sent g)
  exact ⟨h1, sel_eq (K.ks2 h n) j (better_second (K.ks h n) (K.ks2 h n) i j top' low h2), top.ne⟩

/-! ## The two attentions -/

/-- The positions of the two chosen chunks. -/
def SI (i j : Fin 64) : Finset (Fin 2048) := Finset.univ.filter fun m => chunk m = i ∨ chunk m = j

include hA hK in
theorem inter_kernel (h : Fin 12) (n : Fin 2048) (d : Fin 64) (a : Fin 2048 → ℝ) (ha : ∀ m, A.att h n m = (a m : EReal)) :
    K.inter h n d = soft (SI (A.sel h n 0) (A.sel h n 1)) a (fun m => A.v h m d) := by
  obtain ⟨h1, h2, hne⟩ := picks hA hK h n
  have hq : K.qk h n = A.att h n := funext fun m => qk_eq hK h n m
  obtain ⟨M, hM⟩ : ∃ c : ℝ, mx (K.qk h n) = (c : EReal) :=
    mx_real _ 0 (by rw [hq, ha]; exact EReal.coe_ne_bot _) fun m => by rw [hq, ha]; exact EReal.coe_ne_top _
  have hpen (g : Fin 64) : K.pen h n g = if g = A.sel h n 0 ∨ g = A.sel h n 1 then ((-M : ℝ) : EReal) else ⊥ := by
    unfold Arrs.pen
    rw [h1, h2, hM, zero_sub, EReal.coe_neg]
    simp only [word_inj]
  have hia (m : Fin 2048) : K.ia h n m = (a m : EReal) + if chunk m = A.sel h n 0 ∨ chunk m = A.sel h n 1 then ((-M : ℝ) : EReal) else ⊥ := by
    unfold Arrs.ia
    rw [hq, ha, ← hpen (chunk m)]
    have e (g : Fin 64) : K.pen h n g * K.E g m = if chunk m = g then K.pen h n g else 0 := by
      rw [hK.E]
      have : m.val / 32 = g.val ↔ chunk m = g := by
        rw [Fin.ext_iff]; rfl
      simp only [this, mul_ite, mul_one, mul_zero]
    have e' : ∑ g, K.pen h n g * K.E g m = K.pen h n (chunk m) := by
      rw [Finset.sum_congr rfl fun g _ => e g, Finset.sum_ite_eq, if_pos (Finset.mem_univ _)]
    rw [e']
  unfold Arrs.inter
  simp only [hK.v]
  refine soft_kernel (SI (A.sel h n 0) (A.sel h n 1)) a M (K.ia h n) _ ?_ ?_ ?_
  · exact ⟨pos (A.sel h n 0) 0, Finset.mem_filter.mpr ⟨Finset.mem_univ _, Or.inl (by
      apply Fin.ext; unfold chunk pos; dsimp only; omega)⟩⟩
  · intro m hm
    rw [hia, if_pos (Finset.mem_filter.mp hm).2, ← EReal.coe_add, sub_eq_add_neg]
  · intro m hm
    rw [hia, if_neg fun hh => hm (Finset.mem_filter.mpr ⟨Finset.mem_univ _, hh⟩), EReal.add_bot]

include hA in
theorem inter_ref (h : Fin 12) (n : Fin 2048) (d : Fin 64) (a : Fin 2048 → ℝ) (ha : ∀ m, A.att h n m = (a m : EReal))
    (hne : A.sel h n 1 ≠ A.sel h n 0) :
    ∑ j, rowW (A.interRow h n) j * A.v h (pos (A.sel h n ⟨j.val / 32, by omega⟩) ⟨j.val % 32, by omega⟩) d
      = soft (SI (A.sel h n 0) (A.sel h n 1)) a (fun m => A.v h m d) := by
  obtain ⟨c, hc⟩ := rowMax_real (A.interRow h n) 0 (by unfold Args.interRow; rw [ha]; exact EReal.coe_ne_bot _)
    fun j => by unfold Args.interRow; rw [ha]; exact EReal.coe_ne_top _
  have key : ∀ (s0 s1 : Fin 64), s1 ≠ s0 → ∀ f : Fin 64 → Fin 2048,
      (∀ j, f j = pos (if j.val / 32 = 0 then s0 else s1) ⟨j.val % 32, by omega⟩) →
      Set.InjOn f (Finset.univ : Finset (Fin 64)) ∧ Finset.univ.image f = SI s0 s1 := by
    intro s0 s1 hs f hf
    have hs' : s1.val ≠ s0.val := fun h => hs (Fin.ext h)
    constructor
    · intro x _ y _ hxy
      rw [hf, hf] at hxy
      have := congrArg Fin.val hxy
      unfold pos at this
      dsimp only at this
      apply Fin.ext
      split_ifs at this <;> omega
    · ext m
      simp only [Finset.mem_image, Finset.mem_univ, true_and, SI, Finset.mem_filter]
      constructor
      · rintro ⟨j, rfl⟩
        rw [hf]
        by_cases hj : j.val / 32 = 0
        · left; rw [if_pos hj]; apply Fin.ext; unfold chunk pos; dsimp only; omega
        · right; rw [if_neg hj]; apply Fin.ext; unfold chunk pos; dsimp only; omega
      · rintro (hm | hm)
        · refine ⟨⟨m.val % 32, by omega⟩, ?_⟩
          rw [hf, if_pos (by dsimp only; omega), ← hm]
          apply Fin.ext; unfold chunk pos; dsimp only; omega
        · refine ⟨⟨32 + m.val % 32, by omega⟩, ?_⟩
          rw [hf, if_neg (by dsimp only; omega), ← hm]
          apply Fin.ext; unfold chunk pos; dsimp only; omega
  obtain ⟨inj, img⟩ := key (A.sel h n 0) (A.sel h n 1) hne
    (fun j => pos (A.sel h n ⟨j.val / 32, by omega⟩) ⟨j.val % 32, by omega⟩) fun j => by
      by_cases hj : j.val / 32 = 0
      · rw [if_pos hj]
        congr 2
        exact Fin.ext hj
      · rw [if_neg hj]
        congr 2
        apply Fin.ext
        show j.val / 32 = 1
        omega
  rw [← img, ← soft_image _ _ inj]
  have hrow (j : Fin 64) : A.interRow h n j = ((a (pos (A.sel h n ⟨j.val / 32, by omega⟩) ⟨j.val % 32, by omega⟩) : ℝ) : EReal) := by
    unfold Args.interRow; rw [ha]
  unfold rowW
  rw [hc]
  refine soft_ref Finset.univ _ c (fun j => A.interRow h n j - (c : EReal)) _ ⟨0, Finset.mem_univ _⟩ ?_ ?_
  · intro j _
    rw [hrow, EReal.coe_sub]
  · intro j hj
    exact absurd (Finset.mem_univ j) hj

/-- The positions of the position's own chunk, up to it. -/
def SL (n : Fin 2048) : Finset (Fin 2048) := Finset.univ.filter fun m => chunk m = chunk n ∧ m.val ≤ n.val

include hA in
theorem intra_ref (h : Fin 12) (n : Fin 2048) (d : Fin 64) (a : Fin 2048 → ℝ) (ha : ∀ m, A.att h n m = (a m : EReal)) :
    ∑ j, rowW (A.intraRow h n) j * A.v h (pos (chunk n) j) d = soft (SL n) a (fun m => A.v h m d) := by
  have hrow (j : Fin 32) : A.intraRow h n j = if j.val ≤ n.val % 32 then ((a (pos (chunk n) j) : ℝ) : EReal) else ⊥ := by
    unfold Args.intraRow; rw [ha]
  obtain ⟨c, hc⟩ := rowMax_real (A.intraRow h n) 0 (by rw [hrow, if_pos (show (0 : Fin 32).val ≤ n.val % 32 from Nat.zero_le _)]; exact EReal.coe_ne_bot _)
    fun j => by rw [hrow]; split_ifs; exacts [EReal.coe_ne_top _, bot_ne_top]
  have inj : Set.InjOn (pos (chunk n)) (Finset.univ.filter fun j : Fin 32 => j.val ≤ n.val % 32 : Finset (Fin 32)) := by
    intro x _ y _ hxy
    have := congrArg Fin.val hxy
    unfold pos at this
    dsimp only at this
    apply Fin.ext
    omega
  have img : (Finset.univ.filter fun j : Fin 32 => j.val ≤ n.val % 32).image (pos (chunk n)) = SL n := by
    ext m
    simp only [Finset.mem_image, Finset.mem_univ, true_and, SL, Finset.mem_filter]
    constructor
    · rintro ⟨j, hj, rfl⟩
      constructor
      · apply Fin.ext; unfold chunk pos; dsimp only; omega
      · unfold chunk pos; dsimp only; omega
    · rintro ⟨hm, hle⟩
      have hm' := congrArg Fin.val hm
      unfold chunk at hm'
      dsimp only at hm'
      refine ⟨⟨m.val % 32, by omega⟩, by dsimp only; omega, ?_⟩
      apply Fin.ext; unfold chunk pos; dsimp only; omega
  rw [← img, ← soft_image _ _ inj]
  unfold rowW
  rw [hc]
  refine soft_ref (Finset.univ.filter fun j : Fin 32 => j.val ≤ n.val % 32) _ c (fun j => A.intraRow h n j - (c : EReal)) _
    ⟨0, Finset.mem_filter.mpr ⟨Finset.mem_univ _, Nat.zero_le _⟩⟩ ?_ ?_
  · intro j hj
    rw [hrow, if_pos (Finset.mem_filter.mp hj).2, EReal.coe_sub]
  · intro j hj
    rw [hrow, if_neg fun hh => hj (Finset.mem_filter.mpr ⟨Finset.mem_univ _, hh⟩), EReal.bot_sub]

include hA hK in
theorem intra_kernel (h : Fin 12) (i : Fin 2) (n : Fin 1024) (d : Fin 64) (a : Fin 2048 → ℝ) (ha : ∀ m, A.att h (grow i n) m = (a m : EReal)) :
    K.intra i h n d = soft (SL (grow i n)) a (fun m => A.v h m d) := by
  have hls (x : Fin 1024) : K.ls i h n x = if x.val / 32 = n.val / 32 ∧ x.val ≤ n.val then ((a (grow i x) : ℝ) : EReal) else ⊥ := by
    unfold Arrs.ls
    rw [qk_eq hK, ha, hK.L]
    split_ifs
    · rw [add_zero]
    · rw [EReal.add_bot]
  obtain ⟨c, hc⟩ := mx_real (K.ls i h n) n (by rw [hls, if_pos ⟨rfl, le_refl _⟩]; exact EReal.coe_ne_bot _)
    fun j => by rw [hls]; split_ifs; exacts [EReal.coe_ne_top _, bot_ne_top]
  have inj : Set.InjOn (grow i) (Finset.univ.filter fun x : Fin 1024 => x.val / 32 = n.val / 32 ∧ x.val ≤ n.val : Finset (Fin 1024)) := by
    intro x _ y _ hxy
    have := congrArg Fin.val hxy
    unfold grow at this
    dsimp only at this
    apply Fin.ext
    omega
  have img : (Finset.univ.filter fun x : Fin 1024 => x.val / 32 = n.val / 32 ∧ x.val ≤ n.val).image (grow i) = SL (grow i n) := by
    ext m
    simp only [Finset.mem_image, Finset.mem_univ, true_and, SL, Finset.mem_filter]
    constructor
    · rintro ⟨x, ⟨hx, hx'⟩, rfl⟩
      constructor
      · apply Fin.ext; unfold chunk grow; dsimp only; omega
      · unfold grow; dsimp only; omega
    · rintro ⟨hm, hle⟩
      have hm' := congrArg Fin.val hm
      unfold chunk grow at hm'
      unfold grow at hle
      dsimp only at hm' hle
      refine ⟨⟨m.val - i.val * 1024, by omega⟩, ⟨by dsimp only; omega, by dsimp only; omega⟩, ?_⟩
      apply Fin.ext; unfold grow; dsimp only; omega
  rw [← img, ← soft_image _ _ inj]
  unfold Arrs.intra
  simp only [hK.v]
  refine soft_kernel (Finset.univ.filter fun x : Fin 1024 => x.val / 32 = n.val / 32 ∧ x.val ≤ n.val) _ c (K.la i h n) _
    ⟨n, Finset.mem_filter.mpr ⟨Finset.mem_univ _, rfl, le_refl _⟩⟩ ?_ ?_
  · intro x hx
    unfold Arrs.la
    rw [hc, hls, if_pos (Finset.mem_filter.mp hx).2, EReal.coe_sub]
  · intro x hx
    unfold Arrs.la
    rw [hc, hls, if_neg fun hh => hx (Finset.mem_filter.mpr ⟨Finset.mem_univ _, hh⟩), EReal.bot_sub]

/-! ## The gate and the sum -/

include hA hK in
theorem gate (h : Fin 12) (n : Fin 2048) : K.g h n 0 = rowW (A.g h n) 0 ∧ K.g h n 1 = rowW (A.g h n) 1 := by
  obtain ⟨c, hc⟩ := rowMax_real (A.g h n) 0 (bd_g hA h n 0).ne_bot fun j => (bd_g hA h n j).ne_top
  obtain ⟨x, hx, _⟩ := bd_g hA h n 0
  obtain ⟨y, hy, _⟩ := bd_g hA h n 1
  unfold rowW
  rw [hc, Fin.sum_univ_two, hK.g, hK.g]
  show Ideal.logistic (A.g h n 0 - A.g h n 1) = _ ∧ Ideal.logistic (A.g h n 1 - A.g h n 0) = _
  rw [hx, hy]
  refine ⟨logistic_eq x y c, (logistic_eq y x c).trans ?_⟩
  rw [add_comm]

include hA hK in
/-- The kernel's sum over the heads is the reference's result. -/
theorem total (n : Fin 2048) (e : Fin 768) :
    ∑ h : Fin 12, K.term ⟨n.val / 1024, by omega⟩ h ⟨n.val % 1024, by omega⟩ e = A.out n e := by
  unfold Args.out
  refine ((Fin.sum_divmod_congr (S := 64) (f := fun (h : Fin 12) (d : Fin 64) => A.o h n d * A.Wo (col h d) e) fun c h1 h2 => ?_).trans ?_).symm
  · have : c = col ⟨c.val / 64, h1⟩ ⟨c.val % 64, h2⟩ := by
      apply Fin.ext; unfold col; dsimp only; omega
    rw [← this]
  refine Finset.sum_congr rfl fun h _ => ?_
  unfold Arrs.term
  refine Finset.sum_congr rfl fun d _ => ?_
  have hn : n = grow ⟨n.val / 1024, by omega⟩ ⟨n.val % 1024, by omega⟩ := by
    apply Fin.ext; unfold grow; dsimp only; omega
  obtain ⟨a, ha⟩ := att_real hA h n
  have e1 : K.intra ⟨n.val / 1024, by omega⟩ h ⟨n.val % 1024, by omega⟩ d = soft (SL n) a (fun m => A.v h m d) := by
    have := intra_kernel hA hK h ⟨n.val / 1024, by omega⟩ ⟨n.val % 1024, by omega⟩ d a (by rw [← hn]; exact ha)
    rw [← hn] at this
    exact this
  rw [← hn, hK.wo, e1, inter_kernel hA hK h n d a ha, (gate hA hK h n).1, (gate hA hK h n).2]
  unfold Args.o
  rw [inter_ref hA h n d a ha (picks hA hK h n).2.2, intra_ref hA h n d a ha]

end Cert.Core

end
-- ==== Proof.RefProj.lean ====
/-
  The reference's projections and gate at an index.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

/-- The argument arrays of a valuation. -/
def args : Args where
  x := fun n e => V (Proc.devRef .tc main_arg0) (ix3 0 n e)
  Wq := fun e c => V (Proc.devRef .tc main_arg1) (ix2 e c)
  Wk := fun e c => V (Proc.devRef .tc main_arg2) (ix2 e c)
  Wv := fun e c => V (Proc.devRef .tc main_arg3) (ix2 e c)
  Wg := fun e c => V (Proc.devRef .tc main_arg4) (ix2 e c)
  Wo := fun e c => V (Proc.devRef .tc main_arg5) (ix2 e c)

theorem v1_at (n : Fin 2048) (h : Fin 12) (d : Fin 64) :
    res_main_v1 V (ix4 0 n h d) = lin (args V).x (args V).Wq n (col h d) := by
  unfold res_main_v1
  clean_types
  pointwise
  rfl

theorem v3_at (n : Fin 2048) (h : Fin 12) (d : Fin 64) :
    res_main_v3 V (ix4 0 n h d) = lin (args V).x (args V).Wk n (col h d) := by
  unfold res_main_v3
  clean_types
  pointwise
  rfl

theorem v7_at (n : Fin 2048) (h : Fin 12) (j : Fin 2) : res_main_v7 V (ix4 0 n h j) = (args V).g h n j := by
  unfold res_main_v7
  clean_types
  pointwise
  rfl

theorem v18_at (n : Fin 2048) (h : Fin 12) (j : Fin 2) : res_main_v18 V (ix4 0 n h j) = rowW ((args V).g h n) j := by
  unfold res_main_v18 res_main_v14
  clean_types
  pointwise
  simp only [v7_at]
  rfl

end Cert.ReferenceIdeal.RV

end
-- ==== Proof.RefAng.lean ====
/-
  The reference's rotation angles at an index.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

theorem v37_at (n : Fin 2048) (j : Fin 32) : res_main_v37 V (ix2 n j) = ang n j := by
  unfold res_main_v37
  clean_types
  pointwise
  rfl

theorem v76_at (n : Fin 2048) (j : Fin 32) : res_main_v76 V (ix2 n j) = ang n j := by
  unfold res_main_v76
  clean_types
  pointwise
  rfl

end Cert.ReferenceIdeal.RV

end
-- ==== Proof.RefRope.lean ====
/-
  The reference's rotated queries and keys, and its values, at an index.
-/
module

public import proofs.«01_k».proof.Proof.RefProj
public import proofs.«01_k».proof.Proof.RefAng
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

theorem v57_at (n : Fin 2048) (h : Fin 12) (d : Fin 64) : res_main_v57 V (ix4 0 n h d) = (args V).q h n d := by
  unfold res_main_v57 res_main_v42 res_main_v43 res_main_v39 res_main_v41
  clean_types
  pointwise
  simp only [v1_at, v37_at]
  rfl

theorem v98_at (g : Fin 64) (r : Fin 32) (h : Fin 12) (d : Fin 64) :
    res_main_v98 V (ix5 0 g r h d) = (args V).k h (pos g r) d := by
  unfold res_main_v98 res_main_v81 res_main_v82 res_main_v78 res_main_v80
  clean_types
  pointwise
  simp only [v3_at, v76_at]
  rfl

theorem v99_at (g : Fin 64) (r : Fin 32) (h : Fin 12) (d : Fin 64) :
    res_main_v99 V (ix5 0 g r h d) = (args V).v h (pos g r) d := by
  unfold res_main_v99
  clean_types
  pointwise
  rfl

end Cert.ReferenceIdeal.RV

end
-- ==== Proof.RefGather.lean ====
/-
  The reference's two data-dependent operations at an index: the gather and the sort, and small word comparisons.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

/-- The gather at an index: with the head's and the chosen chunk's numbers as start indices, the operand's row there. -/
theorem gather_apply (x : S1x12x64x32x64.Idx → EReal) (idx : IVec S1x12x2048x2x3 32) (h : Fin 12) (n : Fin 2048) (kk : Fin 2)
    (r : Fin 32) (d : Fin 64) (g : Fin 64) (h1 : idx (ix5 0 h n kk 1) = BitVec.ofNat 32 h)
    (h2 : idx (ix5 0 h n kk 2) = BitVec.ofNat 32 g) :
    Host.gather gather_S1x12x64x32x64_S1x12x2048x2x3_S1x12x2048x2x32x64_45_012_n_n_012_4_1113264 x idx (ix6 0 h n kk r d)
      = x (ix5 0 h g r d) := by
  have toN : ∀ (k m : ℕ), k < m → m ≤ 64 → min (BitVec.ofNat 32 k).toInt.toNat (m - 1) = k := fun k m hk hm => by
    rw [toInt_small k (by omega)]; simp; omega
  unfold Host.gather
  congr 1
  funext a
  apply Fin.ext
  match a with
  | 0 => exact Nat.lt_one_iff.mp (Fin.isLt _)
  | 1 =>
    have e : (gather_S1x12x64x32x64_S1x12x2048x2x3_S1x12x2048x2x32x64_45_012_n_n_012_4_1113264).siIdx (ix6 0 h n kk r d) ⟨1, by decide⟩
        = ix5 0 h n kk 1 := by
      funext b; apply Fin.ext
      match b with
      | 0 => rfl
      | 1 => rfl
      | 2 => rfl
      | 3 => rfl
      | 4 => rfl
    show min (idx (GatherDims.siIdx _ _ ⟨1, _⟩)).toInt.toNat (12 - 1) + 0 + 0 = h.val
    rw [e, h1, toN h 12 h.isLt (by decide)]
    rfl
  | 2 =>
    have e : (gather_S1x12x64x32x64_S1x12x2048x2x3_S1x12x2048x2x32x64_45_012_n_n_012_4_1113264).siIdx (ix6 0 h n kk r d) ⟨2, by decide⟩
        = ix5 0 h n kk 2 := by
      funext b; apply Fin.ext
      match b with
      | 0 => rfl
      | 1 => rfl
      | 2 => rfl
      | 3 => rfl
      | 4 => rfl
    show min (idx (GatherDims.siIdx _ _ ⟨2, _⟩)).toInt.toNat (64 - 1) + 0 + 0 = g.val
    rw [e, h2, toN g 64 g.isLt (by decide)]
    rfl
  | 3 => show 0 + 0 + r.val = r.val; omega
  | 4 => show 0 + 0 + d.val = d.val; omega

/-- The sort's comparison is the order of the extended reals. -/
theorem cmp_gt (a b : EReal) : (FloatOps.cmpfTotal (F := Ideal) (φ := .f32) .gt a b == 1#1) = decide (b < a) := by
  show (BitVec.ofBool (decide (b < a)) == 1#1) = decide (b < a)
  by_cases h : b < a <;> simp [h]

/-- The second operand of a two-operand stable sort, at an index. -/
theorem sort2_snd (s : Shape) (d : ℕ) (hd : d < s.rank) {α β : Type} (cmp : α × β → α × β → BitVec 1) (x : s.Idx → α) (y : s.Idx → β)
    (j : s.Idx) : (Host.sort2 s d cmp x y).2 j
      = y (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  unfold Host.sort2
  simp only [hd, dite_true]

/-- An index with its last coordinate replaced. -/
theorem along_last (h : Fin 12) (n : Fin 2048) (c k : Fin 64) :
    Shape.Idx.along (s := S1x12x2048x64) (ix4 0 h n c) 3 k = ix4 0 h n k := by
  unfold Shape.Idx.along
  funext a
  match a with
  | 0 => exact Function.update_of_ne (by decide) _ _
  | 1 => exact Function.update_of_ne (by decide) _ _
  | 2 => exact Function.update_of_ne (by decide) _ _
  | 3 => exact Function.update_self _ _ _

/-- The positions of a stable sort of a row of 64, greatest first. -/
theorem sort_apply (x : S1x12x2048x64.Idx → EReal) (h : Fin 12) (n : Fin 2048) (c : Fin 64) :
    (Host.sort2 S1x12x2048x64 3 (fun l r => FloatOps.cmpfTotal (F := Ideal) (φ := .f32) CmpDirection.gt l.1 r.1) x
      fun i => BitVec.ofNat 32 ↑(i 3)).2 (ix4 0 h n c)
      = BitVec.ofNat 32 ↑(sortedFrom (fun i j : Fin 64 => decide (x (ix4 0 h n j) < x (ix4 0 h n i))) c) := by
  refine (sort2_snd S1x12x2048x64 3 (by decide) _ _ _ _).trans ?_
  have e : (fun k k' : Fin 64 => FloatOps.cmpfTotal (F := Ideal) (φ := .f32) CmpDirection.gt
      (x (Shape.Idx.along (s := S1x12x2048x64) (ix4 0 h n c) 3 k)) (x (Shape.Idx.along (s := S1x12x2048x64) (ix4 0 h n c) 3 k')) == 1#1)
      = fun i j : Fin 64 => decide (x (ix4 0 h n j) < x (ix4 0 h n i)) := by
    funext k k'
    rw [along_last, along_last]
    exact cmp_gt _ _
  rw [← e]
  generalize hs : (fun k k' : Fin 64 => FloatOps.cmpfTotal (F := Ideal) (φ := .f32) CmpDirection.gt
      (x (Shape.Idx.along (s := S1x12x2048x64) (ix4 0 h n c) 3 k)) (x (Shape.Idx.along (s := S1x12x2048x64) (ix4 0 h n c) 3 k')) == 1#1) = f
  have a3 : ∀ k : Fin 64, (Shape.Idx.along (s := S1x12x2048x64) (ix4 0 h n c) 3 k) 3 = k := fun k => by rw [along_last]; rfl
  refine (congrArg (fun z => BitVec.ofNat 32 (Fin.val z)) (a3 _)).trans ?_
  subst hs
  rfl

/-- A signed comparison of small words is the comparison of the numbers. -/
theorem sge_small (a b : ℕ) (ha : a < 2 ^ 31) (hb : b < 2 ^ 31) {α : Type} (x y : α) :
    Scalar.select (IntOp.cmpi .sge (BitVec.ofNat 32 a) (BitVec.ofNat 32 b)) x y = if b ≤ a then x else y := by
  have h : IntOp.cmpi .sge (BitVec.ofNat 32 a) (BitVec.ofNat 32 b) = BitVec.ofBool (decide (b ≤ a)) := by
    unfold IntOp.cmpi
    congr 1
    show (BitVec.ofNat 32 b).sle (BitVec.ofNat 32 a) = _
    rw [Bool.eq_iff_iff, BitVec.sle_iff_toInt_le, toInt_small a ha, toInt_small b hb, decide_eq_true_iff]
    omega
  rw [h]
  unfold Scalar.select
  by_cases hh : b ≤ a <;> simp [hh]

/-- An index that is not negative is left as it is. -/
theorem wrap_small (a : ℕ) (ha : a < 2 ^ 31) (y : BitVec 32) :
    Scalar.select (IntOp.cmpi .slt (BitVec.ofNat 32 a) 0#32) y (BitVec.ofNat 32 a) = BitVec.ofNat 32 a := by
  have h : IntOp.cmpi .slt (BitVec.ofNat 32 a) 0#32 = 0#1 := by
    unfold IntOp.cmpi
    have : (BitVec.ofNat 32 a).slt 0#32 = false := by
      rw [Bool.eq_false_iff, ne_eq, BitVec.slt_iff_toInt_lt, toInt_small a ha]
      have : (0#32 : BitVec 32).toInt = 0 := by decide
      omega
    show BitVec.ofBool ((BitVec.ofNat 32 a).slt 0#32) = 0#1
    rw [this]; rfl
  rw [h]; rfl

end Cert.ReferenceIdeal.RV

end
-- ==== Proof.RefSel.lean ====
/-
  The reference's chunk scores and chosen chunks at an index.
-/
module

public import proofs.«01_k».proof.Proof.RefRope
public import proofs.«01_k».proof.Proof.RefGather
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

theorem v114_at (n : Fin 2048) (h : Fin 12) (g : Fin 64) : res_main_v114 V (ix4 0 h n g) = (args V).msc h n g := by
  unfold res_main_v114
  clean_types
  pointwise
  simp only [v57_at, v98_at]
  have e : IntOp.muli (32#32) (BitVec.ofNat 32 ↑g) = BitVec.ofNat 32 (32 * ↑g) := by
    rw [BitVec.ofNat_mul]; rfl
  rw [e, sge_small _ _ (by omega) (by omega)]
  unfold Args.msc
  have hb : id (constant (F := Ideal) S_ FTy.f32 4286578688#32) ix0 = (⊥ : EReal) := c_bot
  rw [hb]
  by_cases hg : 32 * g.val ≤ n.val
  · rw [if_pos hg, if_neg (by omega)]
  · rw [if_neg hg, if_pos (by omega)]; rfl

theorem indices_at (h : Fin 12) (n : Fin 2048) (kk : Fin 2) :
    res_main_indices V (ix4 0 h n kk) = BitVec.ofNat 32 ↑((args V).sel h n kk) := by
  unfold res_main_indices Host.topK
  clean_types
  pointwise
  rw [sort_apply]
  simp only [v114_at]
  rfl

end Cert.ReferenceIdeal.RV

end
-- ==== Proof.RefIdx.lean ====
/-
  The reference's constant start indices.
-/
module

public import proofs.«01_k».proof.Proof.Gen.ReferenceIdeal.Run
public import proofs.«01_k».proof.Proof.RefGather
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

theorem v118_at (i : S1x1x1x1.Idx) : res_main_v118 V i = 0#32 := by
  idx_vars i
  unfold res_main_v118
  clean_types
  pointwise

theorem v120_at (h : Fin 12) : res_main_v120 V (ix4 0 h 0 0) = BitVec.ofNat 32 h := by
  unfold res_main_v120
  clean_types
  pointwise

end Cert.ReferenceIdeal.RV

end
-- ==== Proof.RefInter.lean ====
/-
  The reference's scores of the chosen chunks at an index.
-/
module

public import proofs.«01_k».proof.Proof.RefSel
public import proofs.«01_k».proof.Proof.RefIdx
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

theorem v169_at (n : Fin 2048) (h : Fin 12) (j : Fin 64) : res_main_v169 V (ix4 0 h n j) = (args V).interRow h n j := by
  unfold res_main_v169
  clean_types
  pointwise
  unfold Args.interRow Args.att
  congr 1
  refine Finset.sum_congr rfl fun d _ => ?_
  rw [gather_apply _ _ h n ⟨j.val / 32, by omega⟩ ⟨j.val % 32, by omega⟩ d ((args V).sel h n ⟨j.val / 32, by omega⟩)
    (by pointwise; rw [v120_at, wrap_small _ (by omega)])
    (by pointwise; rw [indices_at, wrap_small _ (by omega)])]
  pointwise
  rw [v57_at, v98_at]

theorem v176_at (n : Fin 2048) (h : Fin 12) (j : Fin 64) :
    res_main_v176 V (ix4 0 h n j) = Ideal.exp ((args V).interRow h n j - rowMax ((args V).interRow h n)) := by
  unfold res_main_v176
  clean_types
  pointwise
  simp only [v169_at]
  rfl

end Cert.ReferenceIdeal.RV

end
-- ==== Proof.RefIntra.lean ====
/-
  The reference's scores of the position's own chunk at an index.
-/
module

public import proofs.«01_k».proof.Proof.RefRope
public import proofs.«01_k».proof.Proof.RefGather
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

variable (V : Valuation τ sig (Elt Ideal))

theorem v193_at (n : Fin 2048) (h : Fin 12) (j : Fin 32) :
    res_main_v193 V (ix5 0 (chunk n) h ⟨n.val % 32, by omega⟩ j) = (args V).intraRow h n j := by
  unfold res_main_v193
  clean_types
  pointwise
  rw [sge_small _ _ (by omega) (by omega)]
  have hn : ∀ p, (⟨(chunk n).val * 32 + n.val % 32, p⟩ : Fin 2048) = n := fun p => Fin.ext (by show n.val / 32 * 32 + n.val % 32 = n.val; omega)
  simp only [hn, v57_at, v98_at]
  have hb : id (constant (F := Ideal) S_ FTy.f32 4286578688#32) ix0 = (⊥ : EReal) := c_bot
  rw [hb]
  rfl

theorem v200_at (n : Fin 2048) (h : Fin 12) (j : Fin 32) :
    res_main_v200 V (ix5 0 (chunk n) h ⟨n.val % 32, by omega⟩ j)
      = Ideal.exp ((args V).intraRow h n j - rowMax ((args V).intraRow h n)) := by
  unfold res_main_v200
  clean_types
  pointwise
  simp only [v193_at]
  rfl

end Cert.ReferenceIdeal.RV

end
-- ==== Proof.RefOut.lean ====
/-
  The reference's run with its result read at every index.
-/
module

public import proofs.«01_k».proof.Proof.RefInter
public import proofs.«01_k».proof.Proof.RefIntra
public import Idealize.ShloMosaic.Lib.Pointwise
public import Idealize.ShloMosaic.Lib.Tactic.CleanTypes

@[expose] public section

set_option maxRecDepth 16384

noncomputable section

namespace Cert.ReferenceIdeal.RV

open Cert.ReferenceIdeal Cert.ReferenceIdeal.Gen Cert.ReferenceIdeal.Value Idealize.ShloMosaic Idealize.ShloMosaic.TcCoe Idealize.ShloMosaic.StableHlo
open Cert.Spec Cert.Math

/-- THE REFERENCE'S RUN: its result buffer ends at `Args.out` of its arguments, at every index. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (n : Fin 2048) (e : Fin 768), (r.2.mem ((c.tc : Thread nD τ).loc main_v216) (ix3 0 n e) : EReal) = (args (launchContents m c)).out n e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨fun n e => ?_, (h c).2⟩) (run m ρ)
  rw [(h c).1]
  generalize launchContents m c = V
  clean_types
  pointwise
  unfold Args.out Args.o
  refine Finset.sum_congr rfl fun c _ => ?_
  refine congrArg₂ (fun a b : EReal => a * b) (congrArg₂ (fun a b : EReal => a + b) ?_ ?_) rfl
  · refine congrArg₂ (fun a b : EReal => a * b) (v18_at V _ _ _) ?_
    refine Finset.sum_congr rfl fun j _ => ?_
    rw [gather_apply _ _ ⟨c.val / 64, by omega⟩ n ⟨j.val / 32, by omega⟩ ⟨j.val % 32, by omega⟩ ⟨c.val % 64, by omega⟩
      ((args V).sel ⟨c.val / 64, by omega⟩ n ⟨j.val / 32, by omega⟩)
      (by pointwise; rw [v120_at, wrap_small _ (by omega)])
      (by pointwise; rw [indices_at, wrap_small _ (by omega)])]
    pointwise
    simp only [v99_at, v176_at]
    rfl
  · refine congrArg₂ (fun a b : EReal => a * b) (v18_at V _ _ _) ?_
    refine Finset.sum_congr rfl fun j _ => ?_
    have h2 := fun j => v200_at V n ⟨c.val / 64, by omega⟩ j
    simp only [chunk] at h2
    simp only [v99_at, h2]
    rw [mul_comm]
    rfl

end Cert.ReferenceIdeal.RV

end
-- ==== Proof.KVal0.lean ====
/-
  The packed weights: the first region's array at an index.
-/
module

public import proofs.«01_k».proof.Proof.R0
public import Idealize.ShloMosaic.Lib.Pointwise
public import Idealize.ShloMosaic.Lib.Tactic.CleanTypes
public import Idealize.ShloMosaic.Lib.Pipeline.ValueKit

@[expose] public section

set_option maxRecDepth 16384

noncomputable section

namespace Cert.KernelIdeal.KV0

open Cert.KernelIdeal Cert.KernelIdeal.Gen Idealize.ShloMosaic Idealize.ShloMosaic.TcCoe
open Idealize.ShloMosaic.Pipeline (Dat Cfg Window)

variable (V : (c : Dev nD) → (b : Ref sig .tc) → Buf (Elt Ideal) ((c : Thread nD τ).loc b))

/-- Row `e` of head `h`'s packed weights: the head's query, key and value columns, its two gate columns, zeros. -/
def packed (c : Dev nD) (h e l : ℕ) (hh : h < 12) (he : e < 768) : EReal :=
  if l < 64 then V c main_arg1 (ix2 ⟨e, he⟩ ⟨h * 64 + l % 64, by omega⟩)
  else if l < 128 then V c main_arg2 (ix2 ⟨e, he⟩ ⟨h * 64 + l % 64, by omega⟩)
  else if l < 192 then V c main_arg3 (ix2 ⟨e, he⟩ ⟨h * 64 + l % 64, by omega⟩)
  else if l < 194 then V c main_arg4 (ix2 ⟨e, he⟩ ⟨h * 2 + l % 2, by omega⟩)
  else 0

theorem e4 : ∀ t : Fin cfg0.N, win0_4.index t 0 = 0 ∧ win0_4.index t 1 = 0 ∧ win0_4.index t 2 = 0 := by decide +kernel
theorem e0 : ∀ t : Fin cfg0.N, win0_0.index t 0 = 0 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = 0 ∧ win0_2.index t 1 = 0 := by decide +kernel
theorem e3 : ∀ t : Fin cfg0.N, win0_3.index t 0 = 0 ∧ win0_3.index t 1 = 0 := by decide +kernel

theorem q_blk (c : Dev nD) (t : Fin cfg0.N) (e l : Fin 768) : (R0.iblk V c 0 t (ix2 e l) : EReal) = V c main_arg1 (ix2 e l) := by
  blk_ext [R0.iblk, (e0 t).1, (e0 t).2]
theorem k_blk (c : Dev nD) (t : Fin cfg0.N) (e l : Fin 768) : (R0.iblk V c 1 t (ix2 e l) : EReal) = V c main_arg2 (ix2 e l) := by
  blk_ext [R0.iblk, (e1 t).1, (e1 t).2]
theorem v_blk (c : Dev nD) (t : Fin cfg0.N) (e l : Fin 768) : (R0.iblk V c 2 t (ix2 e l) : EReal) = V c main_arg3 (ix2 e l) := by
  blk_ext [R0.iblk, (e2 t).1, (e2 t).2]
theorem g_blk (c : Dev nD) (t : Fin cfg0.N) (e : Fin 768) (l : Fin 24) : (R0.iblk V c 3 t (ix2 e l) : EReal) = V c main_arg4 (ix2 e l) := by
  blk_ext [R0.iblk, (e3 t).1, (e3 t).2]

set_option maxHeartbeats 4000000 in
/-- One head's stored block is that head's packed weights. -/
theorem piece (c : Dev nD) (t : Fin cfg0.N) (h : Fin 12) (e : Fin 768) (l : Fin 256) (y : S12x768x256.Idx)
    (h0 : (y 0).val = h.val) (h1 : (y 1).val = e.val) (h2 : (y 2).val = l.val)
    (a b d : ℕ) (ha : l.val < 64 → h.val * 64 + l.val = a) (hb : h.val * 64 + (l.val - 64) = b) (hc : h.val * 64 + (l.val - 64 - 64) = d) (g : ℕ)
    (hg : h.val * 2 + (l.val - 64 - 64 - 64) = g) (pa : l.val < 64 → a < 768) (pb : l.val - 64 < 64 → b < 768) (pd : l.val - 64 - 64 < 64 → d < 768)
    (pg : l.val - 64 - 64 - 64 < 2 → g < 24) :
    (if h : l.val < 64 then (R0.iblk V c 0 t (ix2 e ⟨a, pa h⟩) : EReal)
      else if h : l.val - 64 < 64 then R0.iblk V c 1 t (ix2 e ⟨b, pb h⟩)
      else if h : l.val - 64 - 64 < 64 then R0.iblk V c 2 t (ix2 e ⟨d, pd h⟩)
      else if h : l.val - 64 - 64 - 64 < 2 then R0.iblk V c 3 t (ix2 e ⟨g, pg h⟩) else (0 : EReal))
      = packed V c (y 0) (y 1) (y 2) (y 0).isLt (y 1).isLt := by
  unfold packed
  have hl := l.isLt
  split_ifs <;> first
    | (exfalso; omega)
    | rfl
    | (rw [q_blk]; congr 2 <;> (apply Fin.ext; dsimp only; omega))
    | (rw [k_blk]; congr 2 <;> (apply Fin.ext; dsimp only; omega))
    | (rw [v_blk]; congr 2 <;> (apply Fin.ext; dsimp only; omega))
    | (rw [g_blk]; congr 2 <;> (apply Fin.ext; dsimp only; omega))

set_option maxHeartbeats 8000000 in
/-- The packed weights array. -/
theorem w_all (c : Dev nD) : (R0.dat V c).arrAt 4 cfg0.N
    = fun i : S12x768x256.Idx => packed V c (i 0) (i 1) (i 2) (i 0).isLt (i 1).isLt := by
  refine (R0.dat V c).arrAt_eq_of_covers 4 _ (by decide +kernel) fun t hf y => ?_
  rw [show ((cfg0.win 4).blk t).view.emb y = y from by blk_ext [(e4 t).1, (e4 t).2.1, (e4 t).2.2]]
  blk_simp
  rw [R0.after0_4]
  unfold R0.out0_4
  canon_tiles x h
  all_goals idx_vars x
  all_goals pointwise [k0_pay4, k0_pay3, k0_pay2, k0_pay1, k0_pay15, k0_pay14, k0_pay13, k0_pay12, k0_pay11, k0_pay10, k0_pay9, k0_pay8, k0_pay7, k0_pay6, k0_pay5, R0.k0_pay16]
  case piece11 => exact piece V c t 0 x1 x2 y (by omega) h1 h2 _ _ _ (fun _ => by omega) (by omega) (by omega) _ (by omega) _ _ _ _
  case piece10 => exact piece V c t 1 x1 x2 y (by omega) h1 h2 _ _ _ (fun _ => by omega) (by omega) (by omega) _ (by omega) _ _ _ _
  case piece9 => exact piece V c t 2 x1 x2 y (by omega) h1 h2 _ _ _ (fun _ => by omega) (by omega) (by omega) _ (by omega) _ _ _ _
  case piece8 => exact piece V c t 3 x1 x2 y (by omega) h1 h2 _ _ _ (fun _ => by omega) (by omega) (by omega) _ (by omega) _ _ _ _
  case piece7 => exact piece V c t 4 x1 x2 y (by omega) h1 h2 _ _ _ (fun _ => by omega) (by omega) (by omega) _ (by omega) _ _ _ _
  case piece6 => exact piece V c t 5 x1 x2 y (by omega) h1 h2 _ _ _ (fun _ => by omega) (by omega) (by omega) _ (by omega) _ _ _ _
  case piece5 => exact piece V c t 6 x1 x2 y (by omega) h1 h2 _ _ _ (fun _ => by omega) (by omega) (by omega) _ (by omega) _ _ _ _
  case piece4 => exact piece V c t 7 x1 x2 y (by omega) h1 h2 _ _ _ (fun _ => by omega) (by omega) (by omega) _ (by omega) _ _ _ _
  case piece3 => exact piece V c t 8 x1 x2 y (by omega) h1 h2 _ _ _ (fun _ => by omega) (by omega) (by omega) _ (by omega) _ _ _ _
  case piece2 => exact piece V c t 9 x1 x2 y (by omega) h1 h2 _ _ _ (fun _ => by omega) (by omega) (by omega) _ (by omega) _ _ _ _
  case piece1 => exact piece V c t 10 x1 x2 y (by omega) h1 h2 _ _ _ (fun _ => by omega) (by omega) (by omega) _ (by omega) _ _ _ _
  case piece0 => exact piece V c t 11 x1 x2 y (by omega) h1 h2 _ _ _ (fun _ => by omega) (by omega) (by omega) _ (by omega) _ _ _ _

end Cert.KernelIdeal.KV0

end
-- ==== Proof.KVal1.lean ====
/-
  The projections: the second region's five arrays at an index.
-/
module

public import proofs.«01_k».proof.Proof.R1
public import proofs.«01_k».proof.Proof.Spec
public import Idealize.ShloMosaic.Lib.Pointwise
public import Idealize.ShloMosaic.Lib.Tactic.CleanTypes
public import Idealize.ShloMosaic.Lib.Pipeline.ValueKit

@[expose] public section

set_option maxRecDepth 16384

noncomputable section

namespace Cert.KernelIdeal.KV1

open Cert.KernelIdeal Cert.KernelIdeal.Gen Idealize.ShloMosaic Idealize.ShloMosaic.TcCoe
open Idealize.ShloMosaic.Pipeline (Dat Cfg Window)
open Cert.Spec Cert.Math

variable (V : (c : Dev nD) → (b : Ref sig .tc) → Buf (Elt Ideal) ((c : Thread nD τ).loc b))

/-- The projection of position `n` onto packed column `l` of head `h`. -/
def prj (c : Dev nD) (h : Fin 12) (n : Fin 2048) (l : Fin 256) : EReal :=
  lin (fun n e => V c main_v0 (ix2 n e)) (fun e l => V c main_v1 (ix3 h e l)) n l

/-- A row rotated as the kernel rotates it, from the two interleaved tables. -/
def rot (c : Dev nD) (T : Fin 64 → EReal) (n : Fin 2048) (d : Fin 64) : EReal :=
  T d * (V c main_v36 (ix2 n d) : EReal)
    + (if d.val % 2 = 0 then T ⟨(d.val + 1) % 64, by omega⟩ else T ⟨(d.val + 63) % 64, by omega⟩) * (V c main_v41 (ix2 n d) : EReal)

/-- Head `h`'s rotated query. -/
def kq (c : Dev nD) (h : Fin 12) (n : Fin 2048) (d : Fin 64) : EReal := rot V c (fun d => prj V c h n ⟨d.val, by omega⟩) n d
/-- Head `h`'s rotated key. -/
def kk (c : Dev nD) (h : Fin 12) (n : Fin 2048) (d : Fin 64) : EReal := rot V c (fun d => prj V c h n ⟨64 + d.val, by omega⟩) n d

/-- The head of a grid point. -/
def hd (t : Fin cfg1.N) : Fin 12 := ⟨t.val % 12, by omega⟩
/-- The position of row `r` of a grid point's block. -/
def row (t : Fin cfg1.N) (r : Fin 512) : Fin 2048 := ⟨t.val / 12 * 512 + r.val, by have : t.val < 48 := t.isLt; omega⟩

theorem coords_t : ∀ t : Fin cfg1.N, (grid1.coords t 0).val = t.val / 12 ∧ (grid1.coords t 1).val = t.val % 12 := by decide +kernel
theorem ix0 : ∀ t : Fin cfg1.N, win1_0.index t 0 = t.val / 12 ∧ win1_0.index t 1 = 0 := by decide +kernel
theorem ix1 : ∀ t : Fin cfg1.N, win1_1.index t 0 = 0 ∧ win1_1.index t 1 = 0 ∧ win1_1.index t 2 = 0 := by decide +kernel
theorem ix_2 : ∀ t : Fin cfg1.N, win1_2.index t 0 = t.val / 12 ∧ win1_2.index t 1 = 0 := by decide +kernel
theorem ix_3 : ∀ t : Fin cfg1.N, win1_3.index t 0 = t.val / 12 ∧ win1_3.index t 1 = 0 := by decide +kernel
theorem ix_4 : ∀ t : Fin cfg1.N, win1_4.index t 0 = t.val % 12 ∧ win1_4.index t 1 = t.val / 12 ∧ win1_4.index t 2 = 0 := by decide +kernel
theorem ix_5 : ∀ t : Fin cfg1.N, win1_5.index t 0 = t.val % 12 ∧ win1_5.index t 1 = t.val / 12 ∧ win1_5.index t 2 = 0 := by decide +kernel
theorem ix_6 : ∀ t : Fin cfg1.N, win1_6.index t 0 = t.val % 12 ∧ win1_6.index t 1 = t.val / 12 ∧ win1_6.index t 2 = 0 := by decide +kernel
theorem ix_7 : ∀ t : Fin cfg1.N, win1_7.index t 0 = t.val % 12 ∧ win1_7.index t 1 = t.val / 12 ∧ win1_7.index t 2 = 0 := by decide +kernel
theorem ix_8 : ∀ t : Fin cfg1.N, win1_8.index t 0 = t.val % 12 ∧ win1_8.index t 1 = t.val / 12 ∧ win1_8.index t 2 = 0 := by decide +kernel
theorem off_t : ∀ t : Fin cfg1.N, k1_off1 (grid1.coords t) 0 = t.val % 12 := by decide +kernel

/-- The head's packed weights, as the body loads them. -/
abbrev wl (c : Dev nD) (t : Fin cfg1.N) : Vec Ideal S1x768x256 .f32 :=
  View.ld (R1.iblk V c 1 t) (Rect.unit (s := S12x768x256) (k1_off1 (grid1.coords t)) ![1, 768, 256] (k1_off1_inb (grid1.coords t)))

theorem x_blk (c : Dev nD) (t : Fin cfg1.N) (r : Fin 512) (e : Fin 768) :
    (R1.iblk V c 0 t (ix2 r e) : EReal) = V c main_v0 (ix2 (row t r) e) := by
  unfold row
  blk_ext [R1.iblk, (ix0 t).1, (ix0 t).2]

theorem w_blk (c : Dev nD) (t : Fin cfg1.N) (e : Fin 768) (l : Fin 256) :
    (wl V c t (ix3 0 e l) : EReal) = V c main_v1 (ix3 (hd t) e l) := by
  unfold hd wl
  rw [View.ld_apply]
  have o1 : k1_off1 (grid1.coords t) 1 = 0 := rfl
  have o2 : k1_off1 (grid1.coords t) 2 = 0 := rfl
  blk_ext [R1.iblk, (ix1 t).1, (ix1 t).2.1, (ix1 t).2.2, off_t t, Rect.idx_unit_val, o1, o2]

theorem c_blk (c : Dev nD) (t : Fin cfg1.N) (r : Fin 512) (d : Fin 64) :
    (R1.iblk V c 2 t (ix2 r d) : EReal) = V c main_v36 (ix2 (row t r) d) := by
  unfold row
  blk_ext [R1.iblk, (ix_2 t).1, (ix_2 t).2]

theorem s_blk (c : Dev nD) (t : Fin cfg1.N) (r : Fin 512) (d : Fin 64) :
    (R1.iblk V c 3 t (ix2 r d) : EReal) = V c main_v41 (ix2 (row t r) d) := by
  unfold row
  blk_ext [R1.iblk, (ix_3 t).1, (ix_3 t).2]

theorem prj_blk (c : Dev nD) (t : Fin cfg1.N) (r : Fin 512) (l : Fin 256) :
    k1_pay2 (R1.iblk V c 0 t) (wl V c t) (ix2 r l) = prj V c (hd t) (row t r) l := by
  unfold prj lin
  pointwise [k1_pay2]
  refine Finset.sum_congr rfl fun e _ => ?_
  rw [x_blk, w_blk]

/-- The word test of an even column. -/
theorem par_of (d : Fin 64) {α : Type} (x y : α) :
    Scalar.select (IntOp.cmpi .eq
      (Scalar.select (IntOp.andi
          (IntOp.xori (IntOp.cmpi .slt (IntOp.remsi .vector (BitVec.ofNat 32 ↑d) (Scalar.select (Scalar.cmpi .eq 2#32 0#32) 1#32 2#32)) 0#32)
            (Scalar.cmpi .slt (Scalar.select (Scalar.cmpi .eq 2#32 0#32) 1#32 2#32) 0#32))
          (IntOp.cmpi .ne (IntOp.remsi .vector (BitVec.ofNat 32 ↑d) (Scalar.select (Scalar.cmpi .eq 2#32 0#32) 1#32 2#32)) 0#32))
        (IntOp.addi (IntOp.remsi .vector (BitVec.ofNat 32 ↑d) (Scalar.select (Scalar.cmpi .eq 2#32 0#32) 1#32 2#32))
          (Scalar.select (Scalar.cmpi .eq 2#32 0#32) 1#32 2#32))
        (IntOp.remsi .vector (BitVec.ofNat 32 ↑d) (Scalar.select (Scalar.cmpi .eq 2#32 0#32) 1#32 2#32))) 0#32) x y
      = if d.val % 2 = 0 then x else y := by
  have h : ∀ d : Fin 64, IntOp.cmpi .eq
      (Scalar.select (IntOp.andi
          (IntOp.xori (IntOp.cmpi .slt (IntOp.remsi .vector (BitVec.ofNat 32 ↑d) (Scalar.select (Scalar.cmpi .eq 2#32 0#32) 1#32 2#32)) 0#32)
            (Scalar.cmpi .slt (Scalar.select (Scalar.cmpi .eq 2#32 0#32) 1#32 2#32) 0#32))
          (IntOp.cmpi .ne (IntOp.remsi .vector (BitVec.ofNat 32 ↑d) (Scalar.select (Scalar.cmpi .eq 2#32 0#32) 1#32 2#32)) 0#32))
        (IntOp.addi (IntOp.remsi .vector (BitVec.ofNat 32 ↑d) (Scalar.select (Scalar.cmpi .eq 2#32 0#32) 1#32 2#32))
          (Scalar.select (Scalar.cmpi .eq 2#32 0#32) 1#32 2#32))
        (IntOp.remsi .vector (BitVec.ofNat 32 ↑d) (Scalar.select (Scalar.cmpi .eq 2#32 0#32) 1#32 2#32))) 0#32
      = BitVec.ofBool (decide (d.val % 2 = 0)) := by decide +kernel
  rw [h]
  unfold Scalar.select
  by_cases hh : d.val % 2 = 0 <;> simp [hh]

/-- Reading a row a place to the right or to the left, cyclically. -/
theorem shift_of (T : Fin 64 → EReal) (d : Fin 64) (h1 : d.val < 63 → 1 + d.val < 64) (h2 : d.val - 63 < 64)
    (h3 : d.val < 1 → 63 + d.val < 64) (h4 : d.val - 1 < 64) :
    (if d.val % 2 = 0 then (if h : d.val < 63 then T ⟨1 + d.val, h1 h⟩ else T ⟨d.val - 63, h2⟩)
      else (if h : d.val < 1 then T ⟨63 + d.val, h3 h⟩ else T ⟨d.val - 1, h4⟩))
    = if d.val % 2 = 0 then T ⟨(d.val + 1) % 64, by omega⟩ else T ⟨(d.val + 63) % 64, by omega⟩ := by
  split_ifs <;> first
    | (exfalso; omega)
    | (congr 1; apply Fin.ext; dsimp only; omega)

theorem q_pay (c : Dev nD) (t : Fin cfg1.N) (r : Fin 512) (d : Fin 64) :
    k1_pay12 (k1_pay3 (R1.iblk V c 0 t) (wl V c t)) (R1.iblk V c 2 t) (R1.iblk V c 3 t) (ix3 0 r d) = kq V c (hd t) (row t r) d := by
  pointwise [k1_pay12, k1_pay3]
  unfold kq rot
  rw [par_of, ← shift_of (fun d => prj V c (hd t) (row t r) ⟨d.val, by omega⟩) d (by omega) (by omega) (by omega) (by omega), c_blk, s_blk]
  simp only [prj_blk]

theorem g_pay (c : Dev nD) (t : Fin cfg1.N) (r : Fin 512) (j : Fin 2) :
    k1_pay16 (k1_pay6 (R1.iblk V c 0 t) (wl V c t)) (k1_pay7 (R1.iblk V c 0 t) (wl V c t)) (ix3 0 r j)
      = Ideal.logistic (prj V c (hd t) (row t r) ⟨192 + j.val, by omega⟩ - prj V c (hd t) (row t r) ⟨192 + (1 - j.val), by omega⟩) := by
  pointwise [k1_pay16, k1_pay6, k1_pay7]
  have e (a b : ℕ) (ha : a < 256) (hb : b < 256) (hab : a = b) : prj V c (hd t) (row t r) ⟨a, ha⟩ = prj V c (hd t) (row t r) ⟨b, hb⟩ := by
    subst hab; rfl
  split_ifs with hh h1
  · rw [prj_blk, prj_blk]
    exact congrArg Ideal.logistic (congrArg₂ (fun a b : EReal => a - b) (e _ _ _ _ (by omega)) (e _ _ _ _ (by omega)))
  · rw [prj_blk, prj_blk]
    exact congrArg Ideal.logistic (congrArg₂ (fun a b : EReal => a - b) (e _ _ _ _ (by omega)) (e _ _ _ _ (by omega)))
  · exact absurd rfl h1

theorem q_at (c : Dev nD) : (R1.dat V c).arrAt 4 cfg1.N = fun i : S12x2048x64.Idx => kq V c (i 0) (i 1) (i 2) := by
  refine (R1.dat V c).arrAt_eq_of_covers 4 _ (by decide +kernel) fun t hf y => ?_
  rw [show ((cfg1.win 4).blk t).view.emb y = ix3 (hd t) (row t (y 1)) (y 2) from by
    unfold hd row; blk_ext [(ix_4 t).1, (ix_4 t).2.1, (ix_4 t).2.2]]
  blk_simp
  rw [R1.after1_4]
  unfold R1.outsAt1
  frame_out
  idx_vars y
  obtain rfl : y0 = 0 := Subsingleton.elim _ _
  exact q_pay V c t y1 y2

theorem k_pay (c : Dev nD) (t : Fin cfg1.N) (r : Fin 512) (d : Fin 64) :
    k1_pay11 (k1_pay8 (R1.iblk V c 3 t)) (k1_pay9 (R1.iblk V c 0 t) (wl V c t)) (k1_pay10 (R1.iblk V c 0 t) (wl V c t) (R1.iblk V c 2 t)) (ix2 r d)
      = kk V c (hd t) (row t r) d := by
  pointwise [k1_pay11, k1_pay8, k1_pay9, k1_pay10, k1_pay4]
  unfold kk rot
  rw [par_of, ← shift_of (fun d => prj V c (hd t) (row t r) ⟨64 + d.val, by omega⟩) d (by omega) (by omega) (by omega) (by omega), c_blk, s_blk]
  simp only [prj_blk]

theorem k_at (c : Dev nD)  : (R1.dat V c).arrAt 5 cfg1.N = fun i : S12x2048x64.Idx => kk V c (i 0) (i 1) (i 2) := by
  refine (R1.dat V c).arrAt_eq_of_covers 5 _ (by decide +kernel) fun t hf y => ?_
  rw [show ((cfg1.win 5).blk t).view.emb y = ix3 (hd t) (row t (y 1)) (y 2) from by
    unfold hd row; blk_ext [(ix_5 t).1, (ix_5 t).2.1, (ix_5 t).2.2]]
  blk_simp
  rw [R1.after1_5]
  unfold R1.outsAt1
  frame_out
  idx_vars y
  pointwise [k1_pay14, k1_pay13]
  exact k_pay V c t y1 y2

theorem v_at (c : Dev nD) : (R1.dat V c).arrAt 6 cfg1.N
    = fun i : S12x2048x64.Idx => prj V c (i 0) (i 1) ⟨128 + (i 2).val, by have : (i 2).val < 64 := (i 2).isLt; omega⟩ := by
  refine (R1.dat V c).arrAt_eq_of_covers 6 _ (by decide +kernel) fun t hf y => ?_
  rw [show ((cfg1.win 6).blk t).view.emb y = ix3 (hd t) (row t (y 1)) (y 2) from by
    unfold hd row; blk_ext [(ix_6 t).1, (ix_6 t).2.1, (ix_6 t).2.2]]
  blk_simp
  rw [R1.after1_6]
  unfold R1.outsAt1
  frame_out
  idx_vars y
  pointwise [k1_pay15, k1_pay5]
  exact prj_blk V c t y1 _

theorem g_at (c : Dev nD) : (R1.dat V c).arrAt 8 cfg1.N
    = fun i : S12x2048x2.Idx => Ideal.logistic (prj V c (i 0) (i 1) ⟨192 + (i 2).val, by have : (i 2).val < 2 := (i 2).isLt; omega⟩
        - prj V c (i 0) (i 1) ⟨192 + (1 - (i 2).val), by omega⟩) := by
  refine (R1.dat V c).arrAt_eq_of_covers 8 _ (by decide +kernel) fun t hf y => ?_
  rw [show ((cfg1.win 8).blk t).view.emb y = ix3 (hd t) (row t (y 1)) (y 2) from by
    unfold hd row; blk_ext [(ix_8 t).1, (ix_8 t).2.1, (ix_8 t).2.2]]
  blk_simp
  rw [R1.after1_8]
  unfold R1.outsAt1
  frame_out
  idx_vars y
  obtain rfl : y0 = 0 := Subsingleton.elim _ _
  exact g_pay V c t y1 y2

/-- The word test of a chunk's rows. -/
theorem chunk_of (g : Fin 16) (x : Fin 512) {α : Type} (a b : α) :
    Scalar.select
            (IntOp.cmpi CmpIPredicate.eq (BitVec.ofNat 32 ↑g)
              (Scalar.select
                (IntOp.andi
                  (IntOp.cmpi CmpIPredicate.ne
                    (IntOp.subi (BitVec.setWidth 32 (IntOp.cmpi CmpIPredicate.sgt (BitVec.ofNat 32 ↑x) 0#32))
                      (BitVec.setWidth 32 (IntOp.cmpi CmpIPredicate.slt (BitVec.ofNat 32 ↑x) 0#32)))
                    (Scalar.subi (Scalar.extui (Scalar.cmpi CmpIPredicate.sgt 32#32 0#32))
                      (Scalar.extui (Scalar.cmpi CmpIPredicate.slt 32#32 0#32))))
                  (IntOp.cmpi CmpIPredicate.ne (IntOp.remsi ArithUnit.vector (BitVec.ofNat 32 ↑x) 32#32) 0#32))
                (IntOp.subi (IntOp.divsi ArithUnit.vector (BitVec.ofNat 32 ↑x) 32#32) 1#32)
                (IntOp.divsi ArithUnit.vector (BitVec.ofNat 32 ↑x) 32#32))) a b
      = if g.val = x.val / 32 then a else b := by
  have h : ∀ x : Fin 512, (Scalar.select
                (IntOp.andi
                  (IntOp.cmpi CmpIPredicate.ne
                    (IntOp.subi (BitVec.setWidth 32 (IntOp.cmpi CmpIPredicate.sgt (BitVec.ofNat 32 ↑x) 0#32))
                      (BitVec.setWidth 32 (IntOp.cmpi CmpIPredicate.slt (BitVec.ofNat 32 ↑x) 0#32)))
                    (Scalar.subi (Scalar.extui (Scalar.cmpi CmpIPredicate.sgt 32#32 0#32))
                      (Scalar.extui (Scalar.cmpi CmpIPredicate.slt 32#32 0#32))))
                  (IntOp.cmpi CmpIPredicate.ne (IntOp.remsi ArithUnit.vector (BitVec.ofNat 32 ↑x) 32#32) 0#32))
                (IntOp.subi (IntOp.divsi ArithUnit.vector (BitVec.ofNat 32 ↑x) 32#32) 1#32)
                (IntOp.divsi ArithUnit.vector (BitVec.ofNat 32 ↑x) 32#32)) = BitVec.ofNat 32 (x.val / 32) := by decide +kernel
  rw [h]
  have e : (BitVec.ofNat 32 g.val = BitVec.ofNat 32 (x.val / 32)) ↔ g.val = x.val / 32 := by
    rw [← BitVec.toNat_inj, BitVec.toNat_ofNat, BitVec.toNat_ofNat, Nat.mod_eq_of_lt (by omega), Nat.mod_eq_of_lt (by omega)]
  have e2 : IntOp.cmpi .eq (BitVec.ofNat 32 g.val) (BitVec.ofNat 32 (x.val / 32)) = BitVec.ofBool (decide (g.val = x.val / 32)) := by
    unfold IntOp.cmpi
    congr 1
    show (BitVec.ofNat 32 g.val == BitVec.ofNat 32 (x.val / 32)) = _
    rw [Bool.eq_iff_iff, beq_iff_eq, e, decide_eq_true_iff]
  rw [e2]
  unfold Scalar.select
  by_cases hh : g.val = x.val / 32 <;> simp [hh]

/-- A chunk's rows weighted by 1/32 and summed: their mean. -/
theorem mean_rows (K : Fin 2048 → EReal) (hK : ∀ n, K n ≠ ⊤ ∧ K n ≠ ⊥) (b : Fin 4) (g : Fin 16) :
    (∑ x : Fin 512, if g.val = x.val / 32 then Ideal.ofBits .f32 1023410176#32 * K ⟨b.val * 512 + x.val, by omega⟩ else 0)
      = Ideal.div (∑ r : Fin 32, K (pos ⟨b.val * 16 + g.val, by omega⟩ r)) (Ideal.ofBits .f32 1107296256#32) := by
  have fin : ∀ r, ∃ a : ℝ, K r = (a : EReal) := fun r => ⟨_, (EReal.coe_toReal (hK r).1 (hK r).2).symm⟩
  choose f hf' using fin
  simp only [hf']
  rw [mean_eq, ← Finset.sum_filter, coe_sum, c_32nd]
  refine (Finset.sum_nbij' (fun r : Fin 32 => (⟨g.val * 32 + r.val, by omega⟩ : Fin 512)) (fun x : Fin 512 => (⟨x.val % 32, by omega⟩ : Fin 32))
    (fun r _ => by simp only [Finset.mem_filter, Finset.mem_univ, true_and]; omega) (fun x _ => Finset.mem_univ _)
    (fun r _ => by apply Fin.ext; dsimp only; omega)
    (fun x hx => by simp only [Finset.mem_filter, Finset.mem_univ, true_and] at hx; apply Fin.ext; dsimp only; omega)
    (fun r _ => ?_)).symm
  rw [EReal.coe_mul]
  congr 2
  congr 1
  unfold pos
  apply Fin.ext
  dsimp only
  omega

theorem kc_at (c : Dev nD) (hk : ∀ h n d, kk V c h n d ≠ ⊤ ∧ kk V c h n d ≠ ⊥) : (R1.dat V c).arrAt 7 cfg1.N
    = fun i : S12x64x64.Idx => Ideal.div (∑ r : Fin 32, kk V c (i 0) (pos (i 1) r) (i 2)) (Ideal.ofBits .f32 1107296256#32) := by
  refine (R1.dat V c).arrAt_eq_of_covers 7 _ (by decide +kernel) fun t hf y => ?_
  rw [show ((cfg1.win 7).blk t).view.emb y = ix3 (hd t) ⟨t.val / 12 * 16 + (y 1).val, by
      have : t.val < 48 := t.isLt
      have : (y 1).val < 16 := (y 1).isLt
      omega⟩ (y 2) from by
    unfold hd; blk_ext [(ix_7 t).1, (ix_7 t).2.1, (ix_7 t).2.2]]
  blk_simp
  rw [R1.after1_7]
  unfold R1.outsAt1
  frame_out
  idx_vars y
  have hK := k_pay V c t
  generalize (k1_pay11 (k1_pay8 (R1.iblk V c 3 t)) (k1_pay9 (R1.iblk V c 0 t) (wl V c t))
        (k1_pay10 (R1.iblk V c 0 t) (wl V c t) (R1.iblk V c 2 t))) = K at hK ⊢
  pointwise [k1_pay1, k1_pay17, k1_pay18, k1_pay19]
  simp only [chunk_of, hK]
  have z : ∀ r, kk V c (hd t) (row t r) y2 - kk V c (hd t) (row t r) y2 = 0 := fun r => EReal.sub_self (hk _ _ _).1 (hk _ _ _).2
  simp only [z, mul_zero, sub_zero, ite_self, Finset.sum_const_zero, add_zero]
  exact mean_rows (fun n => kk V c (hd t) n y2) (fun n => hk _ n _) ⟨t.val / 12, by have : t.val < 48 := t.isLt; omega⟩ y1

end Cert.KernelIdeal.KV1

end
-- ==== Proof.ETab.lean ====
/-
  The kernel's table of 64 rows and 2048 columns, as it is printed: each entry is the word of one where the column's
  group is the row, and zero elsewhere. The printed leaves of 128 entries are of five kinds only: no ones, or ones in
  one of the four quarters.
-/
module

public import proofs.«01_k».proof.KernelIdeal
public import Mathlib.Tactic.IntervalCases

@[expose] public section

set_option maxRecDepth 16384
set_option maxHeartbeats 4000000

noncomputable section

namespace Cert.KernelIdeal.KH

open Cert.KernelIdeal

/-- The leaf with its ones in quarter `q`. -/
abbrev quarter (q i : ℕ) : BitVec 32 := match q with
  | 0 => lit0t0_0 i
  | 1 => lit0t0_16 i
  | 2 => lit0t0_32 i
  | _ => lit0t0_48 i

/-- The leaf that the table has at leaf `x` of its part `j`. -/
abbrev leaf (j x i : ℕ) : BitVec 32 := if x % 16 = (8 * j + x / 16) / 4 then quarter (x / 16 % 4) i else lit0t0_1 i

theorem zeros (i : ℕ) : lit0t0_1 i = 0#32 := by
  have hx : i % 128 < 128 := Nat.mod_lt _ (by decide)
  unfold lit0t0_1
  generalize i % 128 = x at hx ⊢
  interval_cases x <;> rfl

/-- The word at `i` of a leaf with its ones in quarter `q`. -/
theorem quarter_at (q i : ℕ) (hq : q < 4) : quarter q i = if i % 128 / 32 = q then 0x3F800000#32 else 0#32 := by
  have hx : i % 128 < 128 := Nat.mod_lt _ (by decide)
  interval_cases q <;> unfold quarter <;> dsimp only [lit0t0_0, lit0t0_16, lit0t0_32, lit0t0_48] <;>
    generalize i % 128 = x at hx ⊢ <;> interval_cases x <;> rfl

/-- The table by its parts and leaves. -/
theorem parts (i : ℕ) (hi : i < 131072) : lit0t i = leaf (i / 16384) (i / 128 % 128) i := by
  have hj : i / 16384 < 8 := by omega
  have hx : i / 128 % 128 < 128 := Nat.mod_lt _ (by decide)
  unfold lit0t
  generalize i / 16384 = j at hj ⊢
  interval_cases j <;> dsimp only [lit0t1_0, lit0t1_1, lit0t1_2, lit0t1_3, lit0t1_4, lit0t1_5, lit0t1_6, lit0t1_7] <;>
    generalize i / 128 % 128 = x at hx ⊢ <;> interval_cases x <;> rfl

theorem entry (g : Fin 64) (k : Fin 2048) :
    lit0t (g.val * 2048 + k.val) = if k.val / 32 = g.val then 0x3F800000#32 else 0#32 := by
  have h1 : (g.val * 2048 + k.val) / 16384 = g.val / 8 := by omega
  have h2 : (g.val * 2048 + k.val) / 128 % 128 = g.val % 8 * 16 + k.val / 128 := by omega
  have h3 : (g.val * 2048 + k.val) % 128 = k.val % 128 := by omega
  have h4 : (g.val % 8 * 16 + k.val / 128) % 16 = k.val / 128 := by omega
  have h5 : (g.val % 8 * 16 + k.val / 128) / 16 = g.val % 8 := by omega
  have h6 : 8 * (g.val / 8) + g.val % 8 = g.val := by omega
  rw [parts _ (by omega), h1, h2]
  unfold leaf
  rw [h4, h5, h6]
  rw [quarter_at _ _ (by omega), zeros, h3]
  split_ifs <;> first | rfl | (exfalso; omega)

end Cert.KernelIdeal.KH

end
-- ==== Proof.KHost.lean ====
/-
  What the host operations around the kernel's three calls leave: the reshaped input, the tables of cosines and sines,
  the reshaped output weights and the two tables of masks, each at an index.
-/
module

public import proofs.«01_k».proof.Proof.Run
public import proofs.«01_k».proof.Proof.Spec
public import proofs.«01_k».proof.Proof.Math
public import proofs.«01_k».proof.Proof.ETab
public import Idealize.ShloMosaic.Lib.StableHlo.ReadAt

@[expose] public section

set_option maxRecDepth 16384

noncomputable section

namespace Cert.KernelIdeal.KH

open Cert.KernelIdeal Cert.KernelIdeal.Gen Idealize.ShloMosaic Idealize.ShloMosaic.TcCoe Cert.Math

variable (m : (ℓ : Loc nD τ sig) → Buf (Elt Ideal) ℓ) (outs : Outs (F := Ideal)) (c : Dev nD)

/-- A small word's quotient by 32. -/
theorem div32 : ∀ k : Fin 2048, IntOp.divsi .host (BitVec.ofNat 32 k.val) 32#32 = BitVec.ofNat 32 (k.val / 32) := by decide +kernel

/-- Equality of small words is equality of the numbers. -/
theorem eq_small (a b : ℕ) (ha : a < 2 ^ 31) (hb : b < 2 ^ 31) :
    IntOp.cmpi .eq (BitVec.ofNat 32 a) (BitVec.ofNat 32 b) = BitVec.ofBool (decide (a = b)) := by
  unfold IntOp.cmpi
  congr 1
  show (BitVec.ofNat 32 a == BitVec.ofNat 32 b) = decide (a = b)
  rw [Bool.eq_iff_iff, beq_iff_eq, decide_eq_true_iff]
  constructor
  · intro h
    have := congrArg BitVec.toNat h
    simp only [BitVec.toNat_ofNat] at this
    omega
  · rintro rfl; rfl

/-- A signed comparison of small words is the comparison of the numbers. -/
theorem sle_small (a b : ℕ) (ha : a < 2 ^ 31) (hb : b < 2 ^ 31) :
    IntOp.cmpi .sle (BitVec.ofNat 32 a) (BitVec.ofNat 32 b) = BitVec.ofBool (decide (a ≤ b)) := by
  unfold IntOp.cmpi
  congr 1
  show (BitVec.ofNat 32 a).sle (BitVec.ofNat 32 b) = _
  rw [Bool.eq_iff_iff, BitVec.sle_iff_toInt_le, toInt_small a ha, toInt_small b hb, decide_eq_true_iff]
  omega

/-- The same, strictly. -/
theorem slt_small (a b : ℕ) (ha : a < 2 ^ 31) (hb : b < 2 ^ 31) :
    IntOp.cmpi .slt (BitVec.ofNat 32 a) (BitVec.ofNat 32 b) = BitVec.ofBool (decide (a < b)) := by
  unfold IntOp.cmpi
  congr 1
  show (BitVec.ofNat 32 a).slt (BitVec.ofNat 32 b) = _
  rw [Bool.eq_iff_iff, BitVec.slt_iff_toInt_lt, toInt_small a ha, toInt_small b hb, decide_eq_true_iff]
  omega

/-- A selection by a tested proposition. -/
theorem sel_bool {α : Type} (p : Prop) [Decidable p] (x y : α) : Scalar.select (BitVec.ofBool (decide p)) x y = if p then x else y := by
  unfold Scalar.select
  by_cases h : p <;> simp [h]

/-- A selection by two tested propositions. -/
theorem sel_and {α : Type} (p q : Prop) [Decidable p] [Decidable q] (x y : α) :
    Scalar.select (IntOp.andi (BitVec.ofBool (decide p)) (BitVec.ofBool (decide q))) x y = if p ∧ q then x else y := by
  unfold Scalar.select
  by_cases h : p <;> by_cases h' : q <;> simp [h, h', IntOp.andi]

/-- A selection by either of two tested propositions. -/
theorem sel_or {α : Type} (p q : Prop) [Decidable p] [Decidable q] (x y : α) :
    Scalar.select (IntOp.ori (BitVec.ofBool (decide p)) (BitVec.ofBool (decide q))) x y = if p ∨ q then x else y := by
  unfold Scalar.select
  by_cases h : p <;> by_cases h' : q <;> simp [h, h', IntOp.ori]

theorem x_at (n : Fin 2048) (e : Fin 768) : V1 m c main_v0 (ix2 n e) = V0 m c main_arg0 (ix3 0 n e) := by
  unfold V1
  after_reads_at

theorem wo_at (h : Fin 12) (d : Fin 64) (e : Fin 768) :
    V3 m outs c main_v2 (ix3 h d e) = V2 m outs c main_arg5 (ix2 (Spec.col h d) e) := by
  unfold V3
  after_reads_at
  rfl

theorem cos_at (n : Fin 2048) (d : Fin 64) :
    (V5 m outs c main_v36 (ix2 n d) : EReal) = Ideal.cos (Spec.ang n (d / 2)) := by
  unfold V5
  after_reads_at
  after_reads_at
  split_ifs <;> rfl

theorem sin_at (n : Fin 2048) (d : Fin 64) :
    (V5 m outs c main_v41 (ix2 n d) : EReal) = if d.val % 2 = 0 then - Ideal.sin (Spec.ang n (d / 2)) else Ideal.sin (Spec.ang n (d / 2)) := by
  unfold V5
  after_reads_at
  after_reads_at
  split_ifs <;> first | rfl | (exfalso; omega)

theorem lmask_at (a b : Fin 1024) :
    (V5 m outs c main_v13 (ix2 a b) : EReal) = if b.val / 32 = a.val / 32 ∧ b.val ≤ a.val then (0 : EReal) else ⊥ := by
  unfold V5 V4 V3
  after_reads_at
  show (_ : EReal) = _
  simp only [id]
  pointwise
  rw [div32 ⟨a.val, by omega⟩, div32 ⟨b.val, by omega⟩, eq_small _ _ (by dsimp only; omega) (by dsimp only; omega), sle_small _ _ (by omega) (by omega), sel_and, c_bot]
  simp only [eq_comm]

/-- The word at an index of the printed table. -/
theorem lit_at (g : Fin 64) (k : Fin 2048) :
    lit0 (S64x2048.rowMajor (ix2 g k)) = if k.val / 32 = g.val then 0x3F800000#32 else 0#32 := by
  have e : (S64x2048.rowMajor (ix2 g k)).val = g.val * 2048 + k.val := by
    rw [Shape.rowMajor_val_two]
    rfl
  rw [← entry g k, ← e]

theorem emat_at (g : Fin 64) (k : Fin 2048) :
    (V5 m outs c main_cst (ix2 g k) : EReal) = if k.val / 32 = g.val then (1 : EReal) else 0 := by
  rw [V5_of m outs c main_cst (by decide), V4_of m outs c main_cst (by decide), V3_of m outs c main_cst (by decide),
    V2_of m outs c main_cst (by decide)]
  have e : (V1 m c main_cst (ix2 g k) : EReal) = FloatOps.ofBits (F := Ideal) .f32 (lit0 (S64x2048.rowMajor (ix2 g k))) := by
    unfold V1
    after_reads_at
  rw [e, lit_at]
  split_ifs
  · exact Ideal.ofBits_one_f32
  · exact Ideal.ofBits_zero_f32

end Cert.KernelIdeal.KH

end
-- ==== Proof.KPay2.lean ====
/-
  The third call's body at an index, from the values of the blocks it loads.
-/
module

public import proofs.«01_k».proof.Proof.KSpec
public import proofs.«01_k».proof.Proof.KHost
public import Idealize.ShloMosaic.Lib.Pointwise
public import Idealize.ShloMosaic.Lib.Tactic.CleanTypes

@[expose] public section

set_option maxRecDepth 16384

noncomputable section

namespace Cert.KernelIdeal.KP2

open Cert.KernelIdeal Cert.KernelIdeal.Gen Idealize.ShloMosaic Idealize.ShloMosaic.TcCoe
open Cert.KSpec Cert.Math Cert.KernelIdeal.KH

/-- A selection by the equality of two words. -/
theorem sel_eqw {α : Type} (a b : BitVec 32) (x y : α) : Scalar.select (IntOp.cmpi .eq a b) x y = if a = b then x else y := by
  have h : IntOp.cmpi .eq a b = BitVec.ofBool (decide (a = b)) := by
    unfold IntOp.cmpi
    congr 1
  rw [h, sel_bool]

/-- A selection by either of two equalities of words. -/
theorem sel_eqw2 {α : Type} (a b d e : BitVec 32) (x y : α) :
    Scalar.select (IntOp.ori (IntOp.cmpi .eq a b) (IntOp.cmpi .eq d e)) x y = if a = b ∨ d = e then x else y := by
  have h (a b : BitVec 32) : IntOp.cmpi .eq a b = BitVec.ofBool (decide (a = b)) := by
    unfold IntOp.cmpi
    congr 1
  rw [h, h, sel_or]

variable (A : Arrs) (i : Fin 2) (h : Fin 12) (pt : grid2.Coords) (hi : (pt 0).val = i.val)
  (v0 : Vec Ideal S1x1024x64 .bf16) (v3 v6 : Vec Ideal S1x2048x64 .bf16) (v9 : Vec Ideal S1x64x64 .f32) (v65 : Vec Ideal S64x2048 .f32)
  (v79 v84 : Vec Ideal S1x1024x64 .bf16) (v87 : Vec Ideal S1024x1024 .f32) (v101 : Vec Ideal S1x1024x2 .f32) (v111 : Vec Ideal S1x64x768 .f32)
  (hq : ∀ (n : Fin 1024) (d : Fin 64), (v0 (ix3 0 n d) : EReal) = A.q h (grow i n) d)
  (hk : ∀ (n : Fin 2048) (d : Fin 64), (v3 (ix3 0 n d) : EReal) = A.k h n d)
  (hv : ∀ (n : Fin 2048) (d : Fin 64), (v6 (ix3 0 n d) : EReal) = A.v h n d)
  (hc : ∀ (g : Fin 64) (d : Fin 64), (v9 (ix3 0 g d) : EReal) = A.kc h g d)
  (hE : ∀ (g : Fin 64) (m : Fin 2048), (v65 (ix2 g m) : EReal) = A.E g m)
  (hkl : ∀ (n : Fin 1024) (d : Fin 64), (v79 (ix3 0 n d) : EReal) = A.k h (grow i n) d)
  (hvl : ∀ (n : Fin 1024) (d : Fin 64), (v84 (ix3 0 n d) : EReal) = A.v h (grow i n) d)
  (hL : ∀ (n x : Fin 1024), (v87 (ix2 n x) : EReal) = A.L n x)
  (hg : ∀ (n : Fin 1024) (j : Fin 2), (v101 (ix3 0 n j) : EReal) = A.g h (grow i n) j)
  (hw : ∀ (d : Fin 64) (e : Fin 768), (v111 (ix3 0 d e) : EReal) = A.wo h d e)

include hi hq hc in
theorem pay6_at (n : Fin 1024) (g : Fin 64) : (k2_pay6 pt v0 v9 (ix2 n g) : EReal) = A.ks h (grow i n) g := by
  pointwise [k2_pay6, k2_pay3]
  simp only [hq, hc]
  have e1 : IntOp.addi (BitVec.ofNat 32 n.val) (Scalar.muli (BitVec.ofNat 32 (pt 0).val) 1024#32) = BitVec.ofNat 32 (grow i n).val := by
    rw [hi]
    unfold grow
    show BitVec.ofNat 32 n.val + BitVec.ofNat 32 i.val * BitVec.ofNat 32 1024 = _
    rw [← BitVec.ofNat_mul, ← BitVec.ofNat_add, add_comm]
  have e2 : IntOp.muli 32#32 (BitVec.ofNat 32 g.val) = BitVec.ofNat 32 (32 * g.val) := by
    rw [BitVec.ofNat_mul]; rfl
  rw [e1, e2, slt_small _ _ (by omega) (by omega), sel_bool]
  rfl

include hi hq hc in
theorem pay7_at (n : Fin 1024) : k2_pay7 pt v0 v9 (ix2 n 0) = A.w1 h (grow i n) := by
  pointwise [k2_pay7]
  simp only [pay6_at A i h pt hi v0 v9 hq hc]
  rfl

include hi hq hc in
theorem pay8_at (n : Fin 1024) (g : Fin 64) :
    k2_pay8 pt v0 v9 (ix2 n g) = IntOp.cmpi .eq (BitVec.ofNat 32 g.val) (A.w1 h (grow i n)) := by
  pointwise [k2_pay8]
  rw [pay7_at A i h pt hi v0 v9 hq hc]

include hq in
theorem pay9_at (n : Fin 1024) (d : Fin 64) :
    (k2_pay9 (k2_pay3 v0) (ix2 n d) : EReal) = A.q h (grow i n) d * Ideal.ofBits .bf16 15872#16 := by
  pointwise [k2_pay9, k2_pay3]
  rw [hq]

include hk in
theorem pay4_at (n : Fin 2048) (d : Fin 64) : (k2_pay4 v3 (ix2 n d) : EReal) = A.k h n d := by
  pointwise [k2_pay4]
  rw [hk]

include hv in
theorem pay5_at (n : Fin 2048) (d : Fin 64) : (k2_pay5 v6 (ix2 n d) : EReal) = A.v h n d := by
  pointwise [k2_pay5]
  rw [hv]

include hkl in
theorem pay11_at (n : Fin 1024) (d : Fin 64) : (k2_pay11 v79 (ix2 n d) : EReal) = A.k h (grow i n) d := by
  pointwise [k2_pay11]
  rw [hkl]

theorem iota_at (n : Fin 1024) (g : Fin 64) : iota .tc S1024x64 32 [1] iota_S1024x64_d1_w32 (ix2 n g) = BitVec.ofNat 32 g.val := by
  pointwise

include hi hq hk hv hc hE in
theorem pay10_at (n : Fin 1024) (d : Fin 64) :
    (k2_pay10 (k2_pay3 v0) (k2_pay4 v3) (k2_pay5 v6) (iota .tc S1024x64 32 [1] iota_S1024x64_d1_w32) (k2_pay6 pt v0 v9) (k2_pay7 pt v0 v9)
      (k2_pay8 pt v0 v9) (Scalar.ofBits .f32 0xF2FC6F7C#32) v65 (ix2 n d) : EReal) = A.inter h (grow i n) d := by
  generalize hio : iota .tc S1024x64 32 [1] iota_S1024x64_d1_w32 = io
  have io_at (n : Fin 1024) (g : Fin 64) : io (ix2 n g) = BitVec.ofNat 32 g.val := by rw [← hio]; exact iota_at n g
  have p3 := pay9_at A i h v0 hq
  generalize k2_pay3 v0 = p at p3 ⊢
  pointwise [k2_pay10]
  simp only [p3, pay4_at A h v3 hk, pay5_at A h v6 hv, pay6_at A i h pt hi v0 v9 hq hc, pay7_at A i h pt hi v0 v9 hq hc,
    pay8_at A i h pt hi v0 v9 hq hc, io_at, hE, sel_eqw, sel_eqw2]
  rfl

include hi hq hk hv hc hE hkl hvl hL hg hw in
theorem pay1_at (n : Fin 1024) (e : Fin 768) :
    (k2_pay1 (k2_pay9 (k2_pay3 v0)) (k2_pay10 (k2_pay3 v0) (k2_pay4 v3) (k2_pay5 v6) (iota .tc S1024x64 32 [1] iota_S1024x64_d1_w32) (k2_pay6 pt v0 v9) (k2_pay7 pt v0 v9)
      (k2_pay8 pt v0 v9) (Scalar.ofBits .f32 0xF2FC6F7C#32) v65) (k2_pay11 v79) v84 v87 v101 v111 (ix2 n e) : EReal) = A.term i h n e := by
  have p9 := pay9_at A i h v0 hq
  have p10 := pay10_at A i h pt hi v0 v3 v6 v9 v65 hq hk hv hc hE
  generalize k2_pay10 (k2_pay3 v0) (k2_pay4 v3) (k2_pay5 v6) (iota .tc S1024x64 32 [1] iota_S1024x64_d1_w32) (k2_pay6 pt v0 v9) (k2_pay7 pt v0 v9)
      (k2_pay8 pt v0 v9) (Scalar.ofBits .f32 0xF2FC6F7C#32) v65 = p at p10 ⊢
  generalize k2_pay9 (k2_pay3 v0) = p' at p9 ⊢
  pointwise [k2_pay1]
  simp only [p9, p10, pay11_at A i h v79 hkl, hvl, hL, hg, hw]
  rfl

end Cert.KernelIdeal.KP2

end
-- ==== Proof.KVal2.lean ====
/-
  The third region's array at an index: the sum over the heads of the body's terms.
-/
module

public import proofs.«01_k».proof.Proof.R2
public import proofs.«01_k».proof.Proof.KPay2
public import Idealize.ShloMosaic.Lib.Pointwise
public import Idealize.ShloMosaic.Lib.Tactic.CleanTypes
public import Idealize.ShloMosaic.Lib.Pipeline.ValueKit

@[expose] public section

set_option maxRecDepth 16384

noncomputable section

namespace Cert.KernelIdeal.KV2

open Cert.KernelIdeal Cert.KernelIdeal.Gen Idealize.ShloMosaic Idealize.ShloMosaic.TcCoe
open Idealize.ShloMosaic.Pipeline (Dat Cfg Window)
open Cert.KSpec Cert.Math

variable (V : (c : Dev nD) → (b : Ref sig .tc) → Buf (Elt Ideal) ((c : Thread nD τ).loc b))

/-- The arrays the third region reads. -/
def arrs (c : Dev nD) : Arrs where
  q h n d := V c main_v42_0 (ix3 h n d)
  k h n d := V c main_v42_1 (ix3 h n d)
  v h n d := V c main_v42_2 (ix3 h n d)
  kc h g d := V c main_v42_3 (ix3 h g d)
  g h n j := V c main_v42_4 (ix3 h n j)
  wo h d e := V c main_v2 (ix3 h d e)
  L a b := V c main_v13 (ix2 a b)
  E g m := V c main_cst (ix2 g m)

/-- The head of a grid point. -/
def hd (t : Fin cfg2.N) : Fin 12 := ⟨t.val % 12, by omega⟩
/-- The block of rows of a grid point. -/
def bi (t : Fin cfg2.N) : Fin 2 := ⟨t.val / 12, by have : t.val < 24 := t.isLt; omega⟩

theorem ct : ∀ t : Fin cfg2.N, (grid2.coords t 0).val = t.val / 12 := by decide +kernel
theorem i_0 : ∀ t : Fin cfg2.N, win2_0.index t 0 = t.val % 12 ∧ win2_0.index t 1 = t.val / 12 ∧ win2_0.index t 2 = 0 := by decide +kernel
theorem i_1 : ∀ t : Fin cfg2.N, win2_1.index t 0 = 0 ∧ win2_1.index t 1 = 0 ∧ win2_1.index t 2 = 0 := by decide +kernel
theorem i_2 : ∀ t : Fin cfg2.N, win2_2.index t 0 = 0 ∧ win2_2.index t 1 = 0 ∧ win2_2.index t 2 = 0 := by decide +kernel
theorem i_3 : ∀ t : Fin cfg2.N, win2_3.index t 0 = 0 ∧ win2_3.index t 1 = 0 ∧ win2_3.index t 2 = 0 := by decide +kernel
theorem i_4 : ∀ t : Fin cfg2.N, win2_4.index t 0 = t.val % 12 ∧ win2_4.index t 1 = t.val / 12 ∧ win2_4.index t 2 = 0 := by decide +kernel
theorem i_5 : ∀ t : Fin cfg2.N, win2_5.index t 0 = 0 ∧ win2_5.index t 1 = 0 ∧ win2_5.index t 2 = 0 := by decide +kernel
theorem i_6 : ∀ t : Fin cfg2.N, win2_6.index t 0 = 0 ∧ win2_6.index t 1 = 0 := by decide +kernel
theorem i_7 : ∀ t : Fin cfg2.N, win2_7.index t 0 = 0 ∧ win2_7.index t 1 = 0 := by decide +kernel
theorem i_8 : ∀ t : Fin cfg2.N, win2_8.index t 0 = t.val / 12 ∧ win2_8.index t 1 = 0 := by decide +kernel
theorem f_8 : ∀ t : Fin cfg2.N, (cfg2.win 8).flush t = true → t.val % 12 = 11 := by decide +kernel
theorem o1 : ∀ t : Fin cfg2.N, k2_off1 (grid2.coords t) 0 = t.val % 12 := by decide +kernel
theorem o2 : ∀ t : Fin cfg2.N, k2_off2 (grid2.coords t) 0 = t.val % 12 := by decide +kernel
theorem o3 : ∀ t : Fin cfg2.N, k2_off3 (grid2.coords t) 0 = t.val % 12 ∧ k2_off3 (grid2.coords t) 1 = t.val / 12 * 1024 := by decide +kernel
theorem o4 : ∀ t : Fin cfg2.N, k2_off4 (grid2.coords t) 0 = t.val % 12 := by decide +kernel

/-- The head's keys, as the body loads them. -/
abbrev kl (c : Dev nD) (t : Fin cfg2.N) : Vec Ideal S1x2048x64 .bf16 :=
  View.ld (R2.iblk V c 1 t) (Rect.unit (s := S12x2048x64) (k2_off1 (grid2.coords t)) S1x2048x64.size (k2_off1_inb (grid2.coords t)))
/-- The head's values. -/
abbrev vl (c : Dev nD) (t : Fin cfg2.N) : Vec Ideal S1x2048x64 .bf16 :=
  View.ld (R2.iblk V c 2 t) (Rect.unit (s := S12x2048x64) (k2_off1 (grid2.coords t)) S1x2048x64.size (k2_off1_inb (grid2.coords t)))
/-- The head's mean keys. -/
abbrev cl (c : Dev nD) (t : Fin cfg2.N) : Vec Ideal S1x64x64 .f32 :=
  View.ld (R2.iblk V c 3 t) (Rect.unit (s := S12x64x64) (k2_off2 (grid2.coords t)) S1x64x64.size (k2_off2_inb (grid2.coords t)))
/-- The head's keys of the block's rows. -/
abbrev kd (c : Dev nD) (t : Fin cfg2.N) : Vec Ideal S1x1024x64 .bf16 :=
  View.ld (R2.iblk V c 1 t) (Rect.unit (s := S12x2048x64) (k2_off3 (grid2.coords t)) S1x1024x64.size (k2_off3_inb (grid2.coords t)))
/-- The head's values of the block's rows. -/
abbrev vd (c : Dev nD) (t : Fin cfg2.N) : Vec Ideal S1x1024x64 .bf16 :=
  View.ld (R2.iblk V c 2 t) (Rect.unit (s := S12x2048x64) (k2_off3 (grid2.coords t)) S1x1024x64.size (k2_off3_inb (grid2.coords t)))
/-- The head's output weights. -/
abbrev wl (c : Dev nD) (t : Fin cfg2.N) : Vec Ideal S1x64x768 .f32 :=
  View.ld (R2.iblk V c 5 t) (Rect.unit (s := S12x64x768) (k2_off4 (grid2.coords t)) S1x64x768.size (k2_off4_inb (grid2.coords t)))

theorem q_blk (c : Dev nD) (t : Fin cfg2.N) (n : Fin 1024) (d : Fin 64) :
    (R2.iblk V c 0 t (ix3 0 n d) : EReal) = (arrs V c).q (hd t) (grow (bi t) n) d := by
  unfold arrs hd bi grow
  blk_ext [R2.iblk, (i_0 t).1, (i_0 t).2.1, (i_0 t).2.2]

theorem k_blk (c : Dev nD) (t : Fin cfg2.N) (n : Fin 2048) (d : Fin 64) :
    (kl V c t (ix3 0 n d) : EReal) = (arrs V c).k (hd t) n d := by
  unfold arrs hd kl
  rw [View.ld_apply]
  have a1 : k2_off1 (grid2.coords t) 1 = 0 := rfl
  have a2 : k2_off1 (grid2.coords t) 2 = 0 := rfl
  blk_ext [R2.iblk, (i_1 t).1, (i_1 t).2.1, (i_1 t).2.2, o1 t, Rect.idx_unit_val, a1, a2]

theorem v_blk (c : Dev nD) (t : Fin cfg2.N) (n : Fin 2048) (d : Fin 64) :
    (vl V c t (ix3 0 n d) : EReal) = (arrs V c).v (hd t) n d := by
  unfold arrs hd vl
  rw [View.ld_apply]
  have a1 : k2_off1 (grid2.coords t) 1 = 0 := rfl
  have a2 : k2_off1 (grid2.coords t) 2 = 0 := rfl
  blk_ext [R2.iblk, (i_2 t).1, (i_2 t).2.1, (i_2 t).2.2, o1 t, Rect.idx_unit_val, a1, a2]

theorem c_blk (c : Dev nD) (t : Fin cfg2.N) (g : Fin 64) (d : Fin 64) :
    (cl V c t (ix3 0 g d) : EReal) = (arrs V c).kc (hd t) g d := by
  unfold arrs hd cl
  rw [View.ld_apply]
  have a1 : k2_off2 (grid2.coords t) 1 = 0 := rfl
  have a2 : k2_off2 (grid2.coords t) 2 = 0 := rfl
  blk_ext [R2.iblk, (i_3 t).1, (i_3 t).2.1, (i_3 t).2.2, o2 t, Rect.idx_unit_val, a1, a2]

theorem kd_blk (c : Dev nD) (t : Fin cfg2.N) (n : Fin 1024) (d : Fin 64) :
    (kd V c t (ix3 0 n d) : EReal) = (arrs V c).k (hd t) (grow (bi t) n) d := by
  unfold arrs hd kd grow bi
  rw [View.ld_apply]
  have a2 : k2_off3 (grid2.coords t) 2 = 0 := rfl
  blk_ext [R2.iblk, (i_1 t).1, (i_1 t).2.1, (i_1 t).2.2, (o3 t).1, (o3 t).2, Rect.idx_unit_val, a2]

theorem vd_blk (c : Dev nD) (t : Fin cfg2.N) (n : Fin 1024) (d : Fin 64) :
    (vd V c t (ix3 0 n d) : EReal) = (arrs V c).v (hd t) (grow (bi t) n) d := by
  unfold arrs hd vd grow bi
  rw [View.ld_apply]
  have a2 : k2_off3 (grid2.coords t) 2 = 0 := rfl
  blk_ext [R2.iblk, (i_2 t).1, (i_2 t).2.1, (i_2 t).2.2, (o3 t).1, (o3 t).2, Rect.idx_unit_val, a2]

theorem g_blk (c : Dev nD) (t : Fin cfg2.N) (n : Fin 1024) (j : Fin 2) :
    (R2.iblk V c 4 t (ix3 0 n j) : EReal) = (arrs V c).g (hd t) (grow (bi t) n) j := by
  unfold arrs hd bi grow
  blk_ext [R2.iblk, (i_4 t).1, (i_4 t).2.1, (i_4 t).2.2]

theorem w_blk (c : Dev nD) (t : Fin cfg2.N) (d : Fin 64) (e : Fin 768) :
    (wl V c t (ix3 0 d e) : EReal) = (arrs V c).wo (hd t) d e := by
  unfold arrs hd wl
  rw [View.ld_apply]
  have a1 : k2_off4 (grid2.coords t) 1 = 0 := rfl
  have a2 : k2_off4 (grid2.coords t) 2 = 0 := rfl
  blk_ext [R2.iblk, (i_5 t).1, (i_5 t).2.1, (i_5 t).2.2, o4 t, Rect.idx_unit_val, a1, a2]

theorem L_blk (c : Dev nD) (t : Fin cfg2.N) (a b : Fin 1024) : (R2.iblk V c 6 t (ix2 a b) : EReal) = (arrs V c).L a b := by
  unfold arrs
  blk_ext [R2.iblk, (i_6 t).1, (i_6 t).2]

theorem E_blk (c : Dev nD) (t : Fin cfg2.N) (g : Fin 64) (m : Fin 2048) : (R2.iblk V c 7 t (ix2 g m) : EReal) = (arrs V c).E g m := by
  unfold arrs
  blk_ext [R2.iblk, (i_7 t).1, (i_7 t).2]

/-- What the body adds at a grid point. -/
abbrev pay (c : Dev nD) (t : Fin cfg2.N) : FVec Ideal S1024x768 .f32 :=
  k2_pay1 (k2_pay9 (k2_pay3 (R2.iblk V c 0 t))) (k2_pay10 (k2_pay3 (R2.iblk V c 0 t)) (k2_pay4 (kl V c t)) (k2_pay5 (vl V c t))
    (iota .tc S1024x64 32 [1] iota_S1024x64_d1_w32) (k2_pay6 (grid2.coords t) (R2.iblk V c 0 t) (cl V c t))
    (k2_pay7 (grid2.coords t) (R2.iblk V c 0 t) (cl V c t)) (k2_pay8 (grid2.coords t) (R2.iblk V c 0 t) (cl V c t))
    (Scalar.ofBits .f32 0xF2FC6F7C#32) (R2.iblk V c 7 t)) (k2_pay11 (kd V c t)) (vd V c t) (R2.iblk V c 6 t) (R2.iblk V c 4 t) (wl V c t)

theorem pay_at (c : Dev nD) (t : Fin cfg2.N) (n : Fin 1024) (e : Fin 768) :
    (pay V c t (ix2 n e) : EReal) = (arrs V c).term (bi t) (hd t) n e :=
  KP2.pay1_at (arrs V c) (bi t) (hd t) (grid2.coords t) (ct t) _ _ _ _ _ _ _ _ _ _ (q_blk V c t) (k_blk V c t) (v_blk V c t) (c_blk V c t)
    (E_blk V c t) (kd_blk V c t) (vd_blk V c t) (L_blk V c t) (g_blk V c t) (w_blk V c t) n e

theorem out_A (c : Dev nD) (t : Fin cfg2.N) (h0 : t.val % 12 = 0) (j : S1024x768.Idx) :
    (R2.outsAt2 V c t.val t.isLt j : EReal) = 0 + (pay V c t j : EReal) := by
  rw [R2.outsAt2_A V c t h0 (by omega), zero_add]
  frame_out
  exact rfl

theorem pay2_eq (a : FVec Ideal S1024x64 .bf16) (b : FVec Ideal S1024x64 .f32) (d : FVec Ideal S1024x64 .bf16) (e : Vec Ideal S1x1024x64 .bf16)
    (f : Vec Ideal S1024x1024 .f32) (g : Vec Ideal S1x1024x2 .f32) (w : Vec Ideal S1x64x768 .f32) (x : Vec Ideal S1024x768 .f32) (j : S1024x768.Idx) :
    (k2_pay2 a b d e f g w x j : EReal) = (x j : EReal) + (k2_pay1 a b d e f g w j : EReal) := by
  idx_vars j
  pointwise [k2_pay2]

theorem out_B (c : Dev nD) (t : Fin cfg2.N) (h0 : ¬t.val % 12 = 0) (j : S1024x768.Idx) :
    (R2.outsAt2 V c t.val t.isLt j : EReal)
      = (R2.outsAt2 V c (t.val - 1) (Nat.lt_of_le_of_lt (Nat.sub_le _ _) t.isLt) j : EReal) + (pay V c t j : EReal) := by
  rw [R2.outsAt2_B V c t h0 (by omega)]
  frame_out
  exact pay2_eq _ _ _ _ _ _ _ _ j

/-- The result array: the heads' terms summed. -/
theorem out_at (c : Dev nD) : (R2.dat V c).arrAt 8 cfg2.N = fun i : S2048x768.Idx =>
    ((∑ h : Fin 12, (arrs V c).term ⟨(i 0).val / 1024, Nat.div_lt_of_lt_mul (i 0).isLt⟩ h ⟨(i 0).val % 1024, Nat.mod_lt _ (by decide)⟩ (i 1) : EReal)) := by
  refine (R2.dat V c).arrAt_eq_of_covers 8 _ (by decide +kernel) fun t hf y => ?_
  have ht := f_8 t hf
  have htl : t.val < 24 := t.isLt
  rw [show ((cfg2.win 8).blk t).view.emb y = ix2 (grow (bi t) (y 0)) (y 1) from by
    unfold grow bi; blk_ext [(i_8 t).1, (i_8 t).2]]
  blk_simp
  rw [R2.after2_8]
  idx_vars y
  refine (Pipeline.eq_sum_fin_of_reset_step_apply_of_flush (M := EReal) (fun n hn => R2.outsAt2 V c n hn) 12 (fun _ => 0) (fun t j => pay V c t j)
    (fun t h j => out_A V c t h j) (fun t h j => out_B V c t h j) t ht (ix2 y0 y1)).trans ?_
  rw [zero_add]
  refine Finset.sum_congr rfl fun s _ => ?_
  rw [pay_at]
  have e1 : bi ⟨12 * (t.val / 12) + s.val, by omega⟩ = ⟨(grow (bi t) y0).val / 1024, by omega⟩ := by
    apply Fin.ext; unfold bi grow; dsimp only; omega
  have e2 : hd ⟨12 * (t.val / 12) + s.val, by omega⟩ = s := by
    apply Fin.ext; unfold hd; dsimp only; omega
  have e3 : y0 = ⟨(grow (bi t) y0).val % 1024, Nat.mod_lt _ (by decide)⟩ := by
    apply Fin.ext; unfold bi grow; dsimp only; omega
  rw [e1, e2]
  exact congrArg (fun z => (arrs V c).term _ s z y1) e3

end Cert.KernelIdeal.KV2

end
-- ==== Proof.Equal.lean ====
/-
  The kernel and the reference end with equal results, for arguments that are bounded.
-/
module

public import proofs.«01_k».proof.Defs
public import proofs.«01_k».proof.Proof.Core
public import proofs.«01_k».proof.Proof.RefOut
public import proofs.«01_k».proof.Proof.KVal0
public import proofs.«01_k».proof.Proof.KVal1
public import proofs.«01_k».proof.Proof.KVal2
public import proofs.«01_k».proof.Proof.KHost
public import proofs.«01_k».proof.Proof.Gen.Pre_bounded
public import Idealize.ShloMosaic.Lib.ReduceAll

@[expose] public section

set_option maxRecDepth 16384

noncomputable section

namespace Cert.Equal

open Cert.KernelIdeal Cert.KernelIdeal.Gen Idealize.ShloMosaic Idealize.ShloMosaic.TcCoe Idealize.SL.Sem
open Cert.Spec Cert.Math Cert.Core
open Cert.KernelIdeal.Run (rd outs outsA outsB d0 d1 d2)

variable (m : (ℓ : Loc nD τ sig) → Buf (Elt Ideal) ℓ) (c : Dev nD)

/-- The kernel's argument arrays, by coordinates. -/
def kargs : Args where
  x := fun n e => V0 m c main_arg0 (ix3 0 n e)
  Wq := fun e k => V0 m c main_arg1 (ix2 e k)
  Wk := fun e k => V0 m c main_arg2 (ix2 e k)
  Wv := fun e k => V0 m c main_arg3 (ix2 e k)
  Wg := fun e k => V0 m c main_arg4 (ix2 e k)
  Wo := fun e k => V0 m c main_arg5 (ix2 e k)

/-! ## What the second region finds -/

theorem carry (o : Outs (F := Ideal)) (r : Ref sig .tc) (h0 : r ∉ hostOps1_W) (h1 : r ∉ hostOps1_1_W) (h2 : r ∉ hostOps1_2_W) :
    V5 m o c r = V2 m o c r :=
  (V5_of m o c r h2).trans ((V4_of m o c r h1).trans (V3_of m o c r h0))

theorem x7 (o : Outs (F := Ideal)) (n : Fin 2048) (e : Fin 768) : (V5 m o c main_v0 (ix2 n e) : EReal) = (kargs m c).x n e := by
  rw [carry m c o main_v0 (by decide) (by decide) (by decide), V2_of m o c main_v0 (by decide)]
  exact KH.x_at m c n e

theorem w7 (h : Fin 12) (e : Fin 768) (l : Fin 256) :
    (V5 m (outsA m) c main_v1 (ix3 h e l) : EReal) = KV0.packed (rd (V1 m)) c h e l h.isLt e.isLt := by
  rw [carry m c _ main_v1 (by decide) (by decide) (by decide)]
  have e1 : V2 m (outsA m) c main_v1 = (d0 m c).arrAt 4 cfg0.N := by
    have := (congrFun (Run.after0 m c) (Proc.devRef .tc main_v1)).symm
    exact this.trans (Pipeline.afterRegion_arr (d0 m c) (V1 m c) winFacts0.arr_inj 4)
  rw [e1, KV0.w_all]
  rfl

theorem arg1 (r : Ref sig .tc) (h : r ∉ hostOps0_W) : rd (V1 m) c r = V0 m c r := V1_of m c r h

abbrev W7 := rd (V5 m (outsA m))

theorem prj_q (h : Fin 12) (n : Fin 2048) (d : Fin 64) :
    KV1.prj (W7 m) c h n ⟨d.val, by omega⟩ = lin (kargs m c).x (kargs m c).Wq n (col h d) := by
  unfold KV1.prj lin
  refine Finset.sum_congr rfl fun e _ => ?_
  refine congrArg₂ (fun a b : EReal => a * b) (x7 m c _ n e) ((w7 m c h e _).trans ?_)
  unfold KV0.packed
  rw [if_pos d.isLt, arg1 m c main_arg1 (by decide)]
  refine congrArg (fun k => V0 m c main_arg1 (ix2 e k)) (Fin.ext ?_)
  show h.val * 64 + d.val % 64 = h.val * 64 + d.val
  omega

theorem prj_k (h : Fin 12) (n : Fin 2048) (d : Fin 64) :
    KV1.prj (W7 m) c h n ⟨64 + d.val, by omega⟩ = lin (kargs m c).x (kargs m c).Wk n (col h d) := by
  unfold KV1.prj lin
  refine Finset.sum_congr rfl fun e _ => ?_
  refine congrArg₂ (fun a b : EReal => a * b) (x7 m c _ n e) ((w7 m c h e _).trans ?_)
  unfold KV0.packed
  rw [if_neg (by dsimp only; omega), if_pos (by dsimp only; omega), arg1 m c main_arg2 (by decide)]
  refine congrArg (fun k => V0 m c main_arg2 (ix2 e k)) (Fin.ext ?_)
  show h.val * 64 + (64 + d.val) % 64 = h.val * 64 + d.val
  omega

theorem prj_v (h : Fin 12) (n : Fin 2048) (d : Fin 64) :
    KV1.prj (W7 m) c h n ⟨128 + d.val, by omega⟩ = lin (kargs m c).x (kargs m c).Wv n (col h d) := by
  unfold KV1.prj lin
  refine Finset.sum_congr rfl fun e _ => ?_
  refine congrArg₂ (fun a b : EReal => a * b) (x7 m c _ n e) ((w7 m c h e _).trans ?_)
  unfold KV0.packed
  rw [if_neg (by dsimp only; omega), if_neg (by dsimp only; omega), if_pos (by dsimp only; omega), arg1 m c main_arg3 (by decide)]
  refine congrArg (fun k => V0 m c main_arg3 (ix2 e k)) (Fin.ext ?_)
  show h.val * 64 + (128 + d.val) % 64 = h.val * 64 + d.val
  omega

theorem prj_g (h : Fin 12) (n : Fin 2048) (j : Fin 2) :
    KV1.prj (W7 m) c h n ⟨192 + j.val, by omega⟩ = lin (kargs m c).x (kargs m c).Wg n (gcol h j) := by
  unfold KV1.prj lin
  refine Finset.sum_congr rfl fun e _ => ?_
  refine congrArg₂ (fun a b : EReal => a * b) (x7 m c _ n e) ((w7 m c h e _).trans ?_)
  unfold KV0.packed
  rw [if_neg (by dsimp only; omega), if_neg (by dsimp only; omega), if_neg (by dsimp only; omega), if_pos (by dsimp only; omega),
    arg1 m c main_arg4 (by decide)]
  refine congrArg (fun k => V0 m c main_arg4 (ix2 e k)) (Fin.ext ?_)
  show h.val * 2 + (192 + j.val) % 2 = h.val * 2 + j.val
  omega

theorem kq_eq (h : Fin 12) (n : Fin 2048) (d : Fin 64) : KV1.kq (W7 m) c h n d = (kargs m c).q h n d := by
  unfold KV1.kq KV1.rot Args.q
  rw [show (fun d : Fin 64 => KV1.prj (W7 m) c h n ⟨d.val, by omega⟩) = fun d => lin (kargs m c).x (kargs m c).Wq n (col h d) from
    funext fun d => prj_q m c h n d]
  exact rope_eq (fun d => lin (kargs m c).x (kargs m c).Wq n (col h d)) _ _ _ _ (KH.cos_at m (outsA m) c n d) (KH.sin_at m (outsA m) c n d)

theorem kk_eq (h : Fin 12) (n : Fin 2048) (d : Fin 64) : KV1.kk (W7 m) c h n d = (kargs m c).k h n d := by
  unfold KV1.kk KV1.rot Args.k
  rw [show (fun d : Fin 64 => KV1.prj (W7 m) c h n ⟨64 + d.val, by omega⟩) = fun d => lin (kargs m c).x (kargs m c).Wk n (col h d) from
    funext fun d => prj_k m c h n d]
  exact rope_eq (fun d => lin (kargs m c).x (kargs m c).Wk n (col h d)) _ _ _ _ (KH.cos_at m (outsA m) c n d) (KH.sin_at m (outsA m) c n d)

/-! ## What the third region finds -/

/-- An output array of the second region, as the third finds it. -/
theorem arr8 (w : Fin cfg1.W) : V6 m (outsB m) c (Proc.devRef .tc (Pipeline.arrRef cfg1.spec w)) = (d1 m c).arrAt w cfg1.N := by
  rw [← Run.V6_B, ← Run.after1]
  exact Pipeline.afterRegion_arr (d1 m c) _ winFacts1.arr_inj w

theorem link_q (h : Fin 12) (n : Fin 2048) (d : Fin 64) : (V6 m (outsB m) c main_v42_0 (ix3 h n d) : EReal) = (kargs m c).q h n d := by
  refine (congrFun ((arr8 m c 4).trans (KV1.q_at _ c)) (ix3 h n d)).trans ?_
  exact kq_eq m c h n d

theorem link_k (h : Fin 12) (n : Fin 2048) (d : Fin 64) : (V6 m (outsB m) c main_v42_1 (ix3 h n d) : EReal) = (kargs m c).k h n d := by
  refine (congrFun ((arr8 m c 5).trans (KV1.k_at _ c)) (ix3 h n d)).trans ?_
  exact kk_eq m c h n d

theorem link_v (h : Fin 12) (n : Fin 2048) (d : Fin 64) : (V6 m (outsB m) c main_v42_2 (ix3 h n d) : EReal) = (kargs m c).v h n d := by
  refine (congrFun ((arr8 m c 6).trans (KV1.v_at _ c)) (ix3 h n d)).trans ?_
  exact prj_v m c h n d

theorem link_kc (hA : Bnd (kargs m c)) (h : Fin 12) (g d : Fin 64) :
    (V6 m (outsB m) c main_v42_3 (ix3 h g d) : EReal) = (kargs m c).kc h g d := by
  have hk (h : Fin 12) (n : Fin 2048) (d : Fin 64) : KV1.kk (W7 m) c h n d ≠ ⊤ ∧ KV1.kk (W7 m) c h n d ≠ ⊥ := by
    rw [kk_eq]; exact ⟨(bd_k hA h n d).ne_top, (bd_k hA h n d).ne_bot⟩
  refine (congrFun ((arr8 m c 7).trans (KV1.kc_at _ c hk)) (ix3 h g d)).trans ?_
  exact congrArg₂ Ideal.div (Finset.sum_congr rfl fun r _ => kk_eq m c h (pos g r) d) rfl

theorem link_g (h : Fin 12) (n : Fin 2048) (j : Fin 2) : (V6 m (outsB m) c main_v42_4 (ix3 h n j) : EReal)
    = Ideal.logistic ((kargs m c).g h n j - (kargs m c).g h n ⟨1 - j.val, by omega⟩) := by
  refine (congrFun ((arr8 m c 8).trans (KV1.g_at _ c)) (ix3 h n j)).trans ?_
  exact congrArg Ideal.logistic (congrArg₂ (fun a b : EReal => a - b) (prj_g m c h n j) (prj_g m c h n ⟨1 - j.val, by omega⟩))

theorem link_wo (h : Fin 12) (d : Fin 64) (e : Fin 768) : (V6 m (outsB m) c main_v2 (ix3 h d e) : EReal) = (kargs m c).Wo (col h d) e := by
  have e1 : V6 m (outsB m) c main_v2 = V3 m (outsB m) c main_v2 :=
    (V6_of m _ c main_v2 (by decide)).trans ((V5_of m _ c main_v2 (by decide)).trans (V4_of m _ c main_v2 (by decide)))
  have e2 : V2 m (outsB m) c main_arg5 = V0 m c main_arg5 := (V2_of m _ c main_arg5 (by decide)).trans (V1_of m c main_arg5 (by decide))
  exact (congrFun e1 (ix3 h d e)).trans ((KH.wo_at m _ c h d e).trans (congrFun e2 _))

theorem link_L (a b : Fin 1024) : (V6 m (outsB m) c main_v13 (ix2 a b) : EReal) = if b.val / 32 = a.val / 32 ∧ b.val ≤ a.val then (0 : EReal) else ⊥ := by
  have e1 : V6 m (outsB m) c main_v13 = V5 m (outsB m) c main_v13 :=
    V6_of m _ c main_v13 (by decide)
  exact (congrFun e1 (ix2 a b)).trans (KH.lmask_at m _ c a b)

theorem link_E (g : Fin 64) (k : Fin 2048) : (V6 m (outsB m) c main_cst (ix2 g k) : EReal) = if k.val / 32 = g.val then (1 : EReal) else 0 :=
  (congrFun (V6_of m (outsB m) c main_cst (by decide)) (ix2 g k)).trans (KH.emat_at m _ c g k)

/-- Arrays that read as they should, element by element, are what the third region should find. -/
theorem link_of (V : (c : Dev nD) → (b : Ref sig .tc) → Buf (Elt Ideal) ((c : Thread nD τ).loc b)) (A : Args)
    (hq : ∀ (h : Fin 12) (n : Fin 2048) (d : Fin 64), (V c main_v42_0 (ix3 h n d) : EReal) = A.q h n d)
    (hk : ∀ (h : Fin 12) (n : Fin 2048) (d : Fin 64), (V c main_v42_1 (ix3 h n d) : EReal) = A.k h n d)
    (hv : ∀ (h : Fin 12) (n : Fin 2048) (d : Fin 64), (V c main_v42_2 (ix3 h n d) : EReal) = A.v h n d)
    (hkc : ∀ (h : Fin 12) (g d : Fin 64), (V c main_v42_3 (ix3 h g d) : EReal) = A.kc h g d)
    (hg : ∀ (h : Fin 12) (n : Fin 2048) (j : Fin 2),
      (V c main_v42_4 (ix3 h n j) : EReal) = Ideal.logistic (A.g h n j - A.g h n ⟨1 - j.val, by omega⟩))
    (hwo : ∀ (h : Fin 12) (d : Fin 64) (e : Fin 768), (V c main_v2 (ix3 h d e) : EReal) = A.Wo (col h d) e)
    (hL : ∀ a b : Fin 1024, (V c main_v13 (ix2 a b) : EReal) = if b.val / 32 = a.val / 32 ∧ b.val ≤ a.val then (0 : EReal) else ⊥)
    (hE : ∀ (g : Fin 64) (k : Fin 2048), (V c main_cst (ix2 g k) : EReal) = if k.val / 32 = g.val then (1 : EReal) else 0) :
    Link (KV2.arrs V c) A :=
  ⟨hq, hk, hv, hkc, hg, hwo, hL, hE⟩

/-- What the third region finds, by reference. -/
def W8 (c : Dev nD) (b : Ref sig .tc) : Buf (Elt Ideal) ((c : Thread nD τ).loc b) := V6 m (outsB m) c (Proc.devRef .tc b)

/-- The third region finds what it should. -/
theorem link (hA : Bnd (kargs m c)) : Link (KV2.arrs (W8 m) c) (kargs m c) :=
  link_of c (W8 m) (kargs m c) (link_q m c) (link_k m c) (link_v m c) (link_kc m c hA) (link_g m c) (link_wo m c) (link_L m c) (link_E m c)

/-! ## The kernel's result -/

theorem result (hA : Bnd (kargs m c)) (n : Fin 2048) (e : Fin 768) :
    (V8 m (outs m) c main_v44 (ix3 0 n e) : EReal) = (kargs m c).out n e := by
  have e9 : V7 m (outs m) c main_v43 = (d2 m c).arrAt 8 cfg2.N := by
    have := (congrFun (Run.after2 m c) (Proc.devRef .tc main_v43)).symm
    exact this.trans (Pipeline.afterRegion_arr (d2 m c) _ winFacts2.arr_inj 8)
  have e10 : V8 m (outs m) c main_v44 (ix3 0 n e) = V7 m (outs m) c main_v43 (ix2 n e) := by
    unfold V8
    after_reads_at
  rw [e10, e9, show d2 m c = R2.dat (W8 m) c from rfl, KV2.out_at]
  exact total hA (link m c hA) n e

/-! ## The precondition -/

instance : Subsingleton Cert.Pre_bounded.S_.Idx := ⟨fun a b => funext fun i => (show Fin 0 from i).elim0⟩

/-- An element no larger than 100000 in absolute value, by the comparison the precondition makes. -/
theorem bd_of_cmp (x : EReal) (h : Ideal.cmp .ole (max x (-x)) (Ideal.ofBits .f32 0x47C35000#32) = 1#1) : Bd 100000 x := by
  rw [c_1e5] at h
  have h' : max x (-x) ≤ ((100000 : ℝ) : EReal) := by
    by_contra hn
    simp [Ideal.cmp, hn] at h
  induction x with
  | bot => exact absurd (le_trans (le_max_right _ _) h') (by simp)
  | top => exact absurd (le_trans (le_max_left _ _) h') (by simp)
  | coe r =>
    refine ⟨r, rfl, abs_le'.mpr ⟨EReal.coe_le_coe_iff.mp (le_trans (le_max_left _ _) h'), ?_⟩⟩
    have := le_trans (le_max_right _ _) h'
    rw [← EReal.coe_neg] at this
    exact EReal.coe_le_coe_iff.mp this

theorem bnd_of_pre [hPre : Cert.Pre_bounded.Facts] (hm : Cert.Pre_KernelIdeal_bounded m) : Bnd (kargs m c) := by
  have h := congrFun (hm c) (Shape.Idx.first hPre.h_S_)
  dsimp only [Cert.Pre_bounded.fn, Cert.Pre_bounded.fn_part1] at h
  obtain ⟨h, hg⟩ := IntOp.andi_eq_one.1 h
  obtain ⟨h, hk⟩ := IntOp.andi_eq_one.1 h
  obtain ⟨hx, hq⟩ := IntOp.andi_eq_one.1 h
  refine ⟨fun n e => bd_of_cmp _ ?_, fun e k => bd_of_cmp _ ?_, fun e k => bd_of_cmp _ ?_, fun e k => bd_of_cmp _ ?_⟩
  · exact Host.reduce_andi_all _ _ _ _ _ hx (ix3 0 n e)
  · exact Host.reduce_andi_all _ _ _ _ _ hq (ix2 e k)
  · exact Host.reduce_andi_all _ _ _ _ _ hk (ix2 e k)
  · exact Host.reduce_andi_all _ _ _ _ _ hg (ix2 e k)

/-! ## The claim -/

/-- THE KERNEL EQUALS THE REFERENCE: from arguments bounded by 100000 both run and end with equal results. -/
theorem algebraic : Cert.algebraic_KernelIdeal_ReferenceIdeal_pre_bounded (hKernelIdeal := Cert.KernelIdeal.Gen.facts)
    (hReferenceIdeal := Cert.ReferenceIdeal.Gen.facts) (hPre_bounded := Cert.Pre_bounded.Gen.facts) := by
  intro m g m' g' hm hargs
  refine ⟨fun c => V8 m (outs m) c main_v44, ?_, ?_⟩
  · exact (θ_run _ _ _).mono (fun r h => h.1) (Run.run m g)
  · refine (θ_run _ _ _).mono (fun r h c => ⟨?_, (h c).2⟩) (Cert.ReferenceIdeal.RV.run_at m' g')
    have hA := bnd_of_pre (hPre := Cert.Pre_bounded.Gen.facts) m c hm
    have ea : Cert.ReferenceIdeal.RV.args (StableHlo.launchContents m' c) = kargs m c := by
      obtain ⟨h0, h1, h2, h3, h4, h5⟩ := hargs c
      unfold Cert.ReferenceIdeal.RV.args kargs
      congr 1
      · funext n e; exact congrFun h0 (ix3 0 n e)
      · funext n e; exact congrFun h1 (ix2 n e)
      · funext n e; exact congrFun h2 (ix2 n e)
      · funext n e; exact congrFun h3 (ix2 n e)
      · funext n e; exact congrFun h4 (ix2 n e)
      · funext n e; exact congrFun h5 (ix2 n e)
    funext i
    have hi : i = ix3 (0 : Fin 1) (i 1) (i 2) := by
      funext k
      fin_cases k
      · exact Subsingleton.elim (α := Fin 1) _ _
      · rfl
      · rfl
    rw [hi]
    refine ((h c).1 (i 1) (i 2)).trans ?_
    rw [ea]
    exact (result m c hA (i 1) (i 2)).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_bounded
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims: the three frames, the named constant, and the equality of kernel and reference. -/
theorem claim : Cert.Claim := ⟨Cert.Kernel.Gen.facts, Cert.KernelIdeal.Gen.facts, Cert.ReferenceIdeal.Gen.facts, Cert.Pre_bounded.Gen.facts,
  fun m g _ => Cert.Kernel.Run.frame m g,
  fun m g _ => Cert.KernelIdeal.Run.frame m g,
  fun m g _ => Cert.KernelIdeal.Run.frame m g,
  fun m g _ => Cert.Frames.reference m g,
  fun m g _ => Cert.Frames.reference m g,
  IdealRules.named_const.statement Cert.KernelIdeal.κ "mask" .f32 0xF149F2CA#32 ⊥ rfl,
  Cert.Equal.algebraic⟩

end Cert.Proof

end
